-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_v18_2) = v2 c
          ∧ r.2.mem ((c.tc : Thread Cert.ReferenceIdeal.nD Cert.ReferenceIdeal.τ).loc Cert.ReferenceIdeal.main_v18_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x40x128 : Shape := ⟨4, ![12, 2048, 40, 128]⟩
abbrev S12x2048x40 : Shape := ⟨3, ![12, 2048, 40]⟩
abbrev S12x2048x8x128 : Shape := ⟨4, ![12, 2048, 8, 128]⟩
abbrev S12x2048x8 : Shape := ⟨3, ![12, 2048, 8]⟩
abbrev S128 : Shape := ⟨1, ![128]⟩
abbrev S12x2048 : Shape := ⟨2, ![12, 2048]⟩
abbrev S32 : Shape := ⟨1, ![32]⟩
abbrev S_ : Shape := ⟨0, ![]⟩
abbrev S24576 : Shape := ⟨1, ![24576]⟩
abbrev S24576x1 : Shape := ⟨2, ![24576, 1]⟩
abbrev S1x32 : Shape := ⟨2, ![1, 32]⟩
abbrev S24576x32 : Shape := ⟨2, ![24576, 32]⟩
abbrev S24576x64 : Shape := ⟨2, ![24576, 64]⟩
abbrev S24576x128 : Shape := ⟨2, ![24576, 128]⟩
abbrev S24576x40x128 : Shape := ⟨3, ![24576, 40, 128]⟩
abbrev S24576x40 : Shape := ⟨2, ![24576, 40]⟩
abbrev S24576x8x128 : Shape := ⟨3, ![24576, 8, 128]⟩
abbrev S24576x8 : Shape := ⟨2, ![24576, 8]⟩
abbrev S1x128 : Shape := ⟨2, ![1, 128]⟩
abbrev S40x128 : Shape := ⟨2, ![40, 128]⟩
abbrev S8x128 : Shape := ⟨2, ![8, 128]⟩
abbrev S64x40x128 : Shape := ⟨3, ![64, 40, 128]⟩
abbrev S64x40 : Shape := ⟨2, ![64, 40]⟩
abbrev S64x8x128 : Shape := ⟨3, ![64, 8, 128]⟩
abbrev S64x8 : Shape := ⟨2, ![64, 8]⟩
abbrev S64x128 : Shape := ⟨2, ![64, 128]⟩
abbrev S64x40x1 : Shape := ⟨3, ![64, 40, 1]⟩
abbrev S2560x128 : Shape := ⟨2, ![2560, 128]⟩
abbrev S64x1x128 : Shape := ⟨3, ![64, 1, 128]⟩
abbrev S1x1x128 : Shape := ⟨3, ![1, 1, 128]⟩
abbrev S64x8x1 : Shape := ⟨3, ![64, 8, 1]⟩
abbrev S512x128 : Shape := ⟨2, ![512, 128]⟩

abbrev nBuf : Space → Nat
  | .hbm => 58
  | .vmem => 28
  | .smem => 0
  | _ => 0

abbrev bufTy : (tb : Table) → Fin (tcTables nBuf tb) → BufTy
  | .hbm, ⟨0, _⟩ => ⟨S12x2048x40x128, .fp8e5m2⟩
  | .hbm, ⟨1, _⟩ => ⟨S12x2048x40, .f32⟩
  | .hbm, ⟨2, _⟩ => ⟨S12x2048x8x128, .fp8e5m2⟩
  | .hbm, ⟨3, _⟩ => ⟨S12x2048x8, .f32⟩
  | .hbm, ⟨4, _⟩ => ⟨S12x2048x40x128, .fp8e4m3⟩
  | .hbm, ⟨5, _⟩ => ⟨S12x2048x40, .f32⟩
  | .hbm, ⟨6, _⟩ => ⟨S12x2048x8x128, .fp8e4m3⟩
  | .hbm, ⟨7, _⟩ => ⟨S12x2048x8, .f32⟩
  | .hbm, ⟨8, _⟩ => ⟨S128, .f32⟩
  | .hbm, ⟨9, _⟩ => ⟨S128, .f32⟩
  | .hbm, ⟨10, _⟩ => ⟨S12x2048, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S24576, .i32⟩
  | .hbm, ⟨23, _⟩ => ⟨S24576, .f32⟩
  | .hbm, ⟨24, _⟩ => ⟨S24576x1, .f32⟩
  | .hbm, ⟨25, _⟩ => ⟨S1x32, .f32⟩
  | .hbm, ⟨26, _⟩ => ⟨S24576x32, .f32⟩
  | .hbm, ⟨27, _⟩ => ⟨S24576x32, .f32⟩
  | .hbm, ⟨28, _⟩ => ⟨S24576x32, .f32⟩
  | .hbm, ⟨29, _⟩ => ⟨S24576x32, .f32⟩
  | .hbm, ⟨30, _⟩ => ⟨S24576x32, .f32⟩
  | .hbm, ⟨31, _⟩ => ⟨S_, .f32⟩
  | .hbm, ⟨32, _⟩ => ⟨S24576x64, .f32⟩
  | .hbm, ⟨33, _⟩ => ⟨S24576x128, .f32⟩
  | .hbm, ⟨34, _⟩ => ⟨S24576x32, .f32⟩
  | .hbm, ⟨35, _⟩ => ⟨S_, .f32⟩
  | .hbm, ⟨36, _⟩ => ⟨S24576x64, .f32⟩
  | .hbm, ⟨37, _⟩ => ⟨S24576x128, .f32⟩
  | .hbm, ⟨38, _⟩ => ⟨S24576x40x128, .fp8e5m2⟩
  | .hbm, ⟨39, _⟩ => ⟨S24576x40, .f32⟩
  | .hbm, ⟨40, _⟩ => ⟨S24576x8x128, .fp8e5m2⟩
  | .hbm, ⟨41, _⟩ => ⟨S24576x8, .f32⟩
  | .hbm, ⟨42, _⟩ => ⟨S24576x40x128, .fp8e4m3⟩
  | .hbm, ⟨43, _⟩ => ⟨S24576x40, .f32⟩
  | .hbm, ⟨44, _⟩ => ⟨S24576x8x128, .fp8e4m3⟩
  | .hbm, ⟨45, _⟩ => ⟨S24576x8, .f32⟩
  | .hbm, ⟨46, _⟩ => ⟨S1x128, .f32⟩
  | .hbm, ⟨47, _⟩ => ⟨S1x128, .f32⟩
  | .hbm, ⟨48, _⟩ => ⟨S24576x40x128, .bf16⟩
  | .hbm, ⟨49, _⟩ => ⟨S24576x8x128, .bf16⟩
  | .hbm, ⟨50, _⟩ => ⟨S40x128, .f32⟩
  | .hbm, ⟨51, _⟩ => ⟨S8x128, .f32⟩
  | .hbm, ⟨52, _⟩ => ⟨S12x2048x40x128, .bf16⟩
  | .hbm, ⟨53, _⟩ => ⟨S12x2048x8x128, .bf16⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .local _ .vmem, ⟨0, _⟩ => ⟨S64x40x128, .fp8e5m2⟩
  | .local _ .vmem, ⟨1, _⟩ => ⟨S64x40x128, .fp8e5m2⟩
  | .local _ .vmem, ⟨2, _⟩ => ⟨S64x40, .f32⟩
  | .local _ .vmem, ⟨3, _⟩ => ⟨S64x40, .f32⟩
  | .local _ .vmem, ⟨4, _⟩ => ⟨S64x8x128, .fp8e5m2⟩
  | .local _ .vmem, ⟨5, _⟩ => ⟨S64x8x128, .fp8e5m2⟩
  | .local _ .vmem, ⟨6, _⟩ => ⟨S64x8, .f32⟩
  | .local _ .vmem, ⟨7, _⟩ => ⟨S64x8, .f32⟩
  | .local _ .vmem, ⟨8, _⟩ => ⟨S64x40x128, .fp8e4m3⟩
  | .local _ .vmem, ⟨9, _⟩ => ⟨S64x40x128, .fp8e4m3⟩
  | .local _ .vmem, ⟨10, _⟩ => ⟨S64x40, .f32⟩
  | .local _ .vmem, ⟨11, _⟩ => ⟨S64x40, .f32⟩
  | .local _ .vmem, ⟨12, _⟩ => ⟨S64x8x128, .fp8e4m3⟩
  | .local _ .vmem, ⟨13, _⟩ => ⟨S64x8x128, .fp8e4m3⟩
  | .local _ .vmem, ⟨14, _⟩ => ⟨S64x8, .f32⟩
  | .local _ .vmem, ⟨15, _⟩ => ⟨S64x8, .f32⟩
  | .local _ .vmem, ⟨16, _⟩ => ⟨S1x128, .f32⟩
  | .local _ .vmem, ⟨17, _⟩ => ⟨S1x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x40x128, .bf16⟩
  | .local _ .vmem, ⟨23, _⟩ => ⟨S64x40x128, .bf16⟩
  | .local _ .vmem, ⟨24, _⟩ => ⟨S64x8x128, .bf16⟩
  | .local _ .vmem, ⟨25, _⟩ => ⟨S64x8x128, .bf16⟩
  | .local _ .vmem, ⟨26, _⟩ => ⟨S40x128, .f32⟩
  | .local _ .vmem, ⟨27, _⟩ => ⟨S8x128, .f32⟩
  | _, _ => ⟨S12x2048x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x40x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x40x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x40x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x8x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S40x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S12x2048x40x128 : Shape := ⟨4, ![12, 2048, 40, 128]⟩
abbrev S12x2048x40 : Shape := ⟨3, ![12, 2048, 40]⟩
abbrev S12x2048x8x128 : Shape := ⟨4, ![12, 2048, 8, 128]⟩
abbrev S12x2048x8 : Shape := ⟨3, ![12, 2048, 8]⟩
abbrev S128 : Shape := ⟨1, ![128]⟩
abbrev S12x2048 : Shape := ⟨2, ![12, 2048]⟩
abbrev S32 : Shape := ⟨1, ![32]⟩
abbrev S_ : Shape := ⟨0, ![]⟩
abbrev S12x2048x1 : Shape := ⟨3, ![12, 2048, 1]⟩
abbrev S1x1x32 : Shape := ⟨3, ![1, 1, 32]⟩
abbrev S12x2048x32 : Shape := ⟨3, ![12, 2048, 32]⟩
abbrev S12x2048x1x32 : Shape := ⟨4, ![12, 2048, 1, 32]⟩
abbrev S12x2048x40x1 : Shape := ⟨4, ![12, 2048, 40, 1]⟩
abbrev S12x2048x40x32 : Shape := ⟨4, ![12, 2048, 40, 32]⟩
abbrev S12x2048x40x64 : Shape := ⟨4, ![12, 2048, 40, 64]⟩
abbrev S1x1x1x128 : Shape := ⟨4, ![1, 1, 1, 128]⟩
abbrev S12x2048x8x1 : Shape := ⟨4, ![12, 2048, 8, 1]⟩
abbrev S12x2048x8x32 : Shape := ⟨4, ![12, 2048, 8, 32]⟩
abbrev S12x2048x8x64 : Shape := ⟨4, ![12, 2048, 8, 64]⟩

abbrev nBuf : Space → Nat
  | .hbm => 36
  | .vmem => 16
  | .smem => 0
  | _ => 0

abbrev bufTy : (tb : Table) → Fin (tcTables nBuf tb) → BufTy
  | .hbm, ⟨0, _⟩ => ⟨S12x2048x40x128, .fp8e5m2⟩
  | .hbm, ⟨1, _⟩ => ⟨S12x2048x40, .f32⟩
  | .hbm, ⟨2, _⟩ => ⟨S12x2048x8x128, .fp8e5m2⟩
  | .hbm, ⟨3, _⟩ => ⟨S12x2048x8, .f32⟩
  | .hbm, ⟨4, _⟩ => ⟨S12x2048x40x128, .fp8e4m3⟩
  | .hbm, ⟨5, _⟩ => ⟨S12x2048x40, .f32⟩
  | .hbm, ⟨6, _⟩ => ⟨S12x2048x8x128, .fp8e4m3⟩
  | .hbm, ⟨7, _⟩ => ⟨S12x2048x8, .f32⟩
  | .hbm, ⟨8, _⟩ => ⟨S128, .f32⟩
  | .hbm, ⟨9, _⟩ => ⟨S128, .f32⟩
  | .hbm, ⟨10, _⟩ => ⟨S12x2048, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S12x2048, .f32⟩
  | .hbm, ⟨23, _⟩ => ⟨S12x2048x1, .f32⟩
  | .hbm, ⟨24, _⟩ => ⟨S1x1x32, .f32⟩
  | .hbm, ⟨25, _⟩ => ⟨S12x2048x32, .f32⟩
  | .hbm, ⟨26, _⟩ => ⟨S12x2048x32, .f32⟩
  | .hbm, ⟨27, _⟩ => ⟨S12x2048x32, .f32⟩
  | .hbm, ⟨28, _⟩ => ⟨S12x2048x32, .f32⟩
  | .hbm, ⟨29, _⟩ => ⟨S12x2048x1x32, .f32⟩
  | .hbm, ⟨30, _⟩ => ⟨S12x2048x32, .f32⟩
  | .hbm, ⟨31, _⟩ => ⟨S12x2048x1x32, .f32⟩
  | .hbm, ⟨32, _⟩ => ⟨S12x2048x40x128, .bf16⟩
  | .hbm, ⟨33, _⟩ => ⟨S12x2048x8x128, .bf16⟩
  | .hbm, ⟨34, _⟩ => ⟨S128, .f32⟩
  | .hbm, ⟨35, _⟩ => ⟨S128, .f32⟩
  | .local _ .vmem, ⟨0, _⟩ => ⟨S12x2048x40x128, .fp8e5m2⟩
  | .local _ .vmem, ⟨1, _⟩ => ⟨S12x2048x40, .f32⟩
  | .local _ .vmem, ⟨2, _⟩ => ⟨S12x2048x8x128, .fp8e5m2⟩
  | .local _ .vmem, ⟨3, _⟩ => ⟨S12x2048x8, .f32⟩
  | .local _ .vmem, ⟨4, _⟩ => ⟨S12x2048x40x128, .fp8e4m3⟩
  | .local _ .vmem, ⟨5, _⟩ => ⟨S12x2048x40, .f32⟩
  | .local _ .vmem, ⟨6, _⟩ => ⟨S12x2048x8x128, .fp8e4m3⟩
  | .local _ .vmem, ⟨7, _⟩ => ⟨S12x2048x8, .f32⟩
  | .local _ .vmem, ⟨8, _⟩ => ⟨S128, .f32⟩
  | .local _ .vmem, ⟨9, _⟩ => ⟨S128, .f32⟩
  | .local _ .vmem, ⟨10, _⟩ => ⟨S12x2048x1x32, .f32⟩
  | .local _ .vmem, ⟨11, _⟩ => ⟨S12x2048x1x32, .f32⟩
  | .local _ .vmem, ⟨12, _⟩ => ⟨S12x2048x40x128, .bf16⟩
  | .local _ .vmem, ⟨13, _⟩ => ⟨S12x2048x8x128, .bf16⟩
  | .local _ .vmem, ⟨14, _⟩ => ⟨S128, .f32⟩
  | .local _ .vmem, ⟨15, _⟩ => ⟨S128, .f32⟩
  | _, _ => ⟨S12x2048x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S12x2048x40x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x40x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2048x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2048x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x2048x1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x2048x1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x2048x40x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x2048x8x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Row.lean ====
/- One row of the problem, over the extended reals: the 128 lanes of one head of one token. The two ways the rotated
   gradient is written (full-width tables with a lane exchange; half-width tables with a three-part concatenation), the
   normalised row, the input gradient and the summand of the weight gradient, in both orders of multiplication, and the
   three equations between them. -/
module

public import Idealize.ShloMosaic.PureOps.Ideal
public import Idealize.ShloMosaic.Lib.IdealHost

@[expose] public section

noncomputable section

namespace Cert.Proof

open Idealize.ShloMosaic

/-- One row: a value per lane. -/
abbrev Row := Fin 128 → EReal
/-- One row of a half-width rotation table. -/
abbrev HalfRow := Fin 32 → EReal

/-- The reciprocal root mean square of a row, with the constant the programs add. -/
def rstd (x : Row) : EReal :=
  Ideal.rsqrt (Ideal.div (∑ k, x k * x k) (Ideal.ofBits .f32 1124073472#32) + Ideal.ofBits .f32 897988541#32)

/-- The normalised row. -/
def xhat (x : Row) : Row := fun l => x l * rstd x

/-- The lane exchange: lanes 0..31 read 32 lanes up, every other lane reads 32 lanes down. -/
def exch (y : Row) : Row := fun l =>
  if l.val < 32 then y ⟨(l.val + 128 - 96) % 128, Nat.mod_lt _ (by decide)⟩
  else y ⟨(l.val + 128 - 32) % 128, Nat.mod_lt _ (by decide)⟩

/-- The rotated gradient by full-width tables `C`, `S` and the lane exchange. -/
def rotFull (y C S : Row) : Row := fun l => y l * C l + exch y l * S l

/-- The rotated gradient by half-width tables `c`, `s`: the first 32 lanes, the next 32, and the 64 that pass. -/
def rotHalf (y : Row) (c s : HalfRow) : Row := fun l =>
  if h1 : l.val < 32 then y l * c ⟨l.val, h1⟩ + y ⟨32 + l.val, by omega⟩ * s ⟨l.val, h1⟩
  else if h2 : l.val - 32 < 32 then
    y ⟨32 + (l.val - 32), by omega⟩ * c ⟨l.val - 32, h2⟩ - y ⟨l.val - 32, by omega⟩ * s ⟨l.val - 32, h2⟩
  else y ⟨64 + (l.val - 32 - 32), by omega⟩

/-- The full-width table over a half-width one: the row, the row again, and the constant `e`. -/
def wide (a b : HalfRow) (e : EReal) : Row := fun l =>
  if h1 : l.val < 32 then a ⟨l.val, h1⟩ else if h2 : l.val - 32 < 32 then b ⟨l.val - 32, h2⟩ else e

/-- The two rotations agree when the full tables are `[c, c, 1]` and `[s, -s, 0]`. -/
theorem rotFull_wide (y : Row) (c s : HalfRow) :
    rotFull y (wide c c 1) (wide s (fun i => -s i) 0) = rotHalf y c s := by
  funext l
  unfold rotFull rotHalf wide exch
  by_cases h1 : l.val < 32
  · simp only [h1, dif_pos, if_true]
    congr 3
    exact Fin.ext (show (l.val + 128 - 96) % 128 = 32 + l.val by omega)
  · by_cases h2 : l.val - 32 < 32
    · simp only [h1, h2, dif_pos, dif_neg, not_false_eq_true, if_false]
      rw [mul_neg, ← sub_eq_add_neg]
      congr 3
      · exact Fin.ext (show l.val = 32 + (l.val - 32) by omega)
      · exact Fin.ext (show (l.val + 128 - 32) % 128 = l.val - 32 by omega)
    · simp only [h1, h2, dif_neg, not_false_eq_true]
      rw [mul_one, mul_zero, add_zero]
      exact congrArg y (Fin.ext (show l.val = 64 + (l.val - 32 - 32) by omega))

/-- The summand of the weight gradient. -/
def dgRow (dn x : Row) : Row := fun l => dn l * xhat x l

/-- The input gradient, the mean taken over `(dn * xhat) * g`. -/
def dxOuter (dn x g : Row) : Row := fun l =>
  rstd x * (dn l * g l - xhat x l * Ideal.div (∑ k, dn k * xhat x k * g k) (Ideal.ofBits .f32 1124073472#32))

/-- The input gradient, the mean taken over `(dn * g) * xhat`. -/
def dxInner (dn x g : Row) : Row := fun l =>
  rstd x * (dn l * g l - xhat x l * Ideal.div (∑ k, dn k * g k * xhat x k) (Ideal.ofBits .f32 1124073472#32))

/-- The two means are one: the factors commute. -/
theorem dxOuter_eq (dn x g : Row) : dxOuter dn x g = dxInner dn x g := by
  unfold dxOuter dxInner
  simp only [mul_right_comm]

/-- The lane comparison of the exchange, as a bit. -/
theorem lane_lt (l : Fin 128) (a b : EReal) :
    Scalar.select (IntOp.cmpi .slt (BitVec.ofNat 32 l.val) 32#32) a b = if l.val < 32 then a else b := by
  have h : ∀ k : Fin 128, IntOp.cmpi .slt (BitVec.ofNat 32 k.val) 32#32 = if k.val < 32 then 1#1 else 0#1 := by decide
  rw [h l]; split <;> rfl

end Cert.Proof

end
-- ==== Proof.KernelBlock.lean ====
/- What one grid point of the kernel computes from the blocks it is given, at an index: the input gradient of each row
   of the block, and the weight gradient added to what the accumulator held. -/
module

public import proofs.«01_k».proof.Proof.Gen.KernelIdeal.Skeleton
public import proofs.«01_k».proof.Proof.Row
public import Idealize.ShloMosaic.Lib.Pointwise

@[expose] public section

set_option maxRecDepth 16384

noncomputable section

namespace Cert.Proof

open Idealize.ShloMosaic Cert.KernelIdeal Cert.KernelIdeal.Gen

/-- A row of an array of codes (a block of it, or all of it), each row of 128 lanes times its scale. -/
def blkRow {T H : ℕ} (x : (⟨3, ![T, H, 128]⟩ : Shape).Idx → EReal) (sc : (⟨2, ![T, H]⟩ : Shape).Idx → EReal)
    (r : Fin T) (h : Fin H) : Row := fun l => x (ix3 r h l) * sc (ix2 r h)

/-- A row of an array of table rows. -/
def tabRow {T : ℕ} (t : (⟨2, ![T, 128]⟩ : Shape).Idx → EReal) (r : Fin T) : Row := fun l => t (ix2 r l)

/-- The weights' row. -/
def gRow (g : (⟨2, ![1, 128]⟩ : Shape).Idx → EReal) : Row := fun l => g (ix2 0 l)

section Q
variable (x0 : Vec Ideal S64x40x128 .fp8e5m2) (x1 : Vec Ideal S64x40 .f32) (x4 : Vec Ideal S64x40x128 .fp8e4m3)
  (x5 : Vec Ideal S64x40 .f32) (x8 : Vec Ideal S1x128 .f32) (x10 x11 : Vec Ideal S64x128 .f32)

/-- The rotated gradient of the query heads. -/
theorem q_dn (r : Fin 64) (h : Fin 40) (l : Fin 128) :
    k0_pay12 (k0_pay9 x0 x1) (k0_pay10 x10 x0 x1) (k0_pay11 x11) (ix3 r h l)
      = rotFull (blkRow x0 x1 r h) (tabRow x10 r) (tabRow x11 r) l := by
  pointwise [k0_pay12, k0_pay9, k0_pay10, k0_pay11, k0_pay7, k0_pay4, k0_pay5]
  rw [lane_lt]; rfl

/-- The reciprocal root mean square of the query heads. -/
theorem q_rstd (r : Fin 64) (h : Fin 40) (l : Fin 1) :
    k0_pay13 (k0_pay8 x4 x5) (ix3 r h l) = rstd (blkRow x4 x5 r h) := by
  pointwise [k0_pay13, k0_pay8]; rfl

/-- The normalised query heads. -/
theorem q_xhat (r : Fin 64) (h : Fin 40) (l : Fin 128) :
    k0_pay14 (k0_pay8 x4 x5) (ix3 r h l) = xhat (blkRow x4 x5 r h) l := by
  pointwise [k0_pay14]; rw [q_rstd]; pointwise [k0_pay8]; rfl

/-- The input gradient of the query heads. -/
theorem q_dx (r : Fin 64) (h : Fin 40) (l : Fin 128) :
    k0_pay17 (k0_pay6 x8) (k0_pay8 x4 x5) (k0_pay9 x0 x1) (k0_pay10 x10 x0 x1) (k0_pay11 x11) (ix3 r h l)
      = dxOuter (rotFull (blkRow x0 x1 r h) (tabRow x10 r) (tabRow x11 r)) (blkRow x4 x5 r h) (gRow x8) l := by
  pointwise [k0_pay17, k0_pay15, k0_pay6]
  simp only [q_dn, q_rstd, q_xhat]; rfl

/-- The weight gradient of the query heads: what was held, and the block's sum over its 64 tokens. -/
theorem q_dg (v : Vec Ideal S40x128 .f32) (h : Fin 40) (l : Fin 128) :
    k0_pay16 (k0_pay8 x4 x5) (k0_pay9 x0 x1) (k0_pay10 x10 x0 x1) (k0_pay11 x11) v (ix2 h l)
      = v (ix2 h l) + ∑ r : Fin 64,
          dgRow (rotFull (blkRow x0 x1 r h) (tabRow x10 r) (tabRow x11 r)) (blkRow x4 x5 r h) l := by
  pointwise [k0_pay16, k0_pay15]
  simp only [q_dn, q_xhat]; rfl

end Q

section K
variable (x2 : Vec Ideal S64x8x128 .fp8e5m2) (x3 : Vec Ideal S64x8 .f32) (x6 : Vec Ideal S64x8x128 .fp8e4m3)
  (x7 : Vec Ideal S64x8 .f32) (x9 : Vec Ideal S1x128 .f32) (x10 x11 : Vec Ideal S64x128 .f32)

/-- The rotated gradient of the key heads. -/
theorem k_dn (r : Fin 64) (h : Fin 8) (l : Fin 128) :
    k0_pay21 (k0_pay4 x10) (k0_pay5 x11) (k0_pay19 x2) x3 (ix3 r h l)
      = rotFull (blkRow x2 x3 r h) (tabRow x10 r) (tabRow x11 r) l := by
  pointwise [k0_pay21, k0_pay19, k0_pay4, k0_pay5]
  rw [lane_lt]; rfl

/-- The reciprocal root mean square of the key heads. -/
theorem k_rstd (r : Fin 64) (h : Fin 8) (l : Fin 1) :
    k0_pay22 x6 x7 (ix3 r h l) = rstd (blkRow x6 x7 r h) := by
  pointwise [k0_pay22, k0_pay20]; rfl

/-- The normalised key heads. -/
theorem k_xhat (r : Fin 64) (h : Fin 8) (l : Fin 128) :
    k0_pay23 x6 x7 (ix3 r h l) = xhat (blkRow x6 x7 r h) l := by
  pointwise [k0_pay23]; rw [k_rstd]; pointwise [k0_pay20]; rfl

/-- The input gradient of the key heads. -/
theorem k_dx (r : Fin 64) (h : Fin 8) (l : Fin 128) :
    k0_pay1 (k0_pay18 x9) (k0_pay21 (k0_pay4 x10) (k0_pay5 x11) (k0_pay19 x2) x3) (k0_pay22 x6 x7) (k0_pay23 x6 x7)
        (k0_pay24 (k0_pay4 x10) (k0_pay5 x11) (k0_pay19 x2) x3 x6 x7) (ix3 r h l)
      = dxOuter (rotFull (blkRow x2 x3 r h) (tabRow x10 r) (tabRow x11 r)) (blkRow x6 x7 r h) (gRow x9) l := by
  pointwise [k0_pay1, k0_pay24, k0_pay18]
  simp only [k_dn, k_rstd, k_xhat]; rfl

/-- The weight gradient of the key heads: what was held, and the block's sum over its 64 tokens. -/
theorem k_dg (v : Vec Ideal S8x128 .f32) (h : Fin 8) (l : Fin 128) :
    k0_pay25 (k0_pay4 x10) (k0_pay5 x11) (k0_pay19 x2) x3 x6 x7 v (ix2 h l)
      = v (ix2 h l) + ∑ r : Fin 64,
          dgRow (rotFull (blkRow x2 x3 r h) (tabRow x10 r) (tabRow x11 r)) (blkRow x6 x7 r h) l := by
  pointwise [k0_pay25, k0_pay24]
  simp only [k_dn, k_xhat]; rfl

end K

/-- The accumulators start at zero. -/
theorem zero_q (h : Fin 40) (l : Fin 128) : (k0_pay2 : FVec Ideal S40x128 .f32) (ix2 h l) = 0 := by
  pointwise [k0_pay2]
theorem zero_k (h : Fin 8) (l : Fin 128) : (k0_pay3 : FVec Ideal S8x128 .f32) (ix2 h l) = 0 := by
  pointwise [k0_pay3]

end Cert.Proof

end
-- ==== Proof.KernelOut.lean ====
/- What each case of the kernel's run leaves in each output's staging buffer, as one pure value of the blocks: the two
   gradients of the block's tokens, and the two accumulators. The first point starts the accumulators at zero, every
   other point adds to what the point before left. -/
module

public import proofs.«01_k».proof.Proof.Gen.KernelIdeal.Frame
public import Idealize.ShloMosaic.Lib.Pipeline.Value

@[expose] public section

set_option maxRecDepth 16384

noncomputable section

namespace Cert.Proof

open Idealize.ShloMosaic Idealize.ShloMosaic.TcCoe Idealize.SL.Sem Cert.KernelIdeal Cert.KernelIdeal.Gen

variable {F : FTy → Type} [FloatOps F]

/-- The input gradient of a block's query heads. -/
def qDx (x0 : Vec F S64x40x128 .fp8e5m2) (x1 : Vec F S64x40 .f32) (x4 : Vec F S64x40x128 .fp8e4m3)
    (x5 : Vec F S64x40 .f32) (x8 : Vec F S1x128 .f32) (x10 x11 : Vec F S64x128 .f32) : Vec F S64x40x128 .bf16 :=
  k0_pay17 (k0_pay6 x8) (k0_pay8 x4 x5) (k0_pay9 x0 x1) (k0_pay10 x10 x0 x1) (k0_pay11 x11)

/-- The query heads' accumulator after a block. -/
def qDg (x0 : Vec F S64x40x128 .fp8e5m2) (x1 : Vec F S64x40 .f32) (x4 : Vec F S64x40x128 .fp8e4m3)
    (x5 : Vec F S64x40 .f32) (x10 x11 : Vec F S64x128 .f32) (v : Vec F S40x128 .f32) : Vec F S40x128 .f32 :=
  k0_pay16 (k0_pay8 x4 x5) (k0_pay9 x0 x1) (k0_pay10 x10 x0 x1) (k0_pay11 x11) v

/-- The input gradient of a block's key heads. -/
def kDx (x2 : Vec F S64x8x128 .fp8e5m2) (x3 : Vec F S64x8 .f32) (x6 : Vec F S64x8x128 .fp8e4m3)
    (x7 : Vec F S64x8 .f32) (x9 : Vec F S1x128 .f32) (x10 x11 : Vec F S64x128 .f32) : Vec F S64x8x128 .bf16 :=
  k0_pay1 (k0_pay18 x9) (k0_pay21 (k0_pay4 x10) (k0_pay5 x11) (k0_pay19 x2) x3) (k0_pay22 x6 x7) (k0_pay23 x6 x7)
    (k0_pay24 (k0_pay4 x10) (k0_pay5 x11) (k0_pay19 x2) x3 x6 x7)

/-- The key heads' accumulator after a block. -/
def kDg (x2 : Vec F S64x8x128 .fp8e5m2) (x3 : Vec F S64x8 .f32) (x6 : Vec F S64x8x128 .fp8e4m3)
    (x7 : Vec F S64x8 .f32) (x10 x11 : Vec F S64x128 .f32) (v : Vec F S8x128 .f32) : Vec F S8x128 .f32 :=
  k0_pay25 (k0_pay4 x10) (k0_pay5 x11) (k0_pay19 x2) x3 x6 x7 v

/-- The offsets of a whole rank-2 access are zero. -/
theorem hz2 : (![0, 0] : Fin 2 → ℕ) = fun _ => 0 := by decide
/-- The offsets of a whole rank-3 access are zero. -/
theorem hz3 : (![0, 0, 0] : Fin 3 → ℕ) = fun _ => 0 := by decide

variable (c : Dev nD) (i : grid0.Coords)
  (a1 : Memref sig .tc .vmem S64x40x128 .fp8e5m2) (h1 : a1.IsWhole)
  (a2 : Memref sig .tc .vmem S64x40 .f32) (h2 : a2.IsWhole)
  (a3 : Memref sig .tc .vmem S64x8x128 .fp8e5m2) (h3 : a3.IsWhole)
  (a4 : Memref sig .tc .vmem S64x8 .f32) (h4 : a4.IsWhole)
  (a5 : Memref sig .tc .vmem S64x40x128 .fp8e4m3) (h5 : a5.IsWhole)
  (a6 : Memref sig .tc .vmem S64x40 .f32) (h6 : a6.IsWhole)
  (a7 : Memref sig .tc .vmem S64x8x128 .fp8e4m3) (h7 : a7.IsWhole)
  (a8 : Memref sig .tc .vmem S64x8 .f32) (h8 : a8.IsWhole)
  (a9 : Memref sig .tc .vmem S1x128 .f32) (h9 : a9.IsWhole)
  (a10 : Memref sig .tc .vmem S1x128 .f32) (h10 : a10.IsWhole)
  (a11 : Memref sig .tc .vmem S64x128 .f32) (h11 : a11.IsWhole)
  (a12 : Memref sig .tc .vmem S64x128 .f32) (h12 : a12.IsWhole)
  (a13 : Memref sig .tc .vmem S64x40x128 .bf16) (h13 : a13.IsWhole)
  (a14 : Memref sig .tc .vmem S64x8x128 .bf16) (h14 : a14.IsWhole)
  (a15 : Memref sig .tc .vmem S40x128 .f32) (h15 : a15.IsWhole)
  (a16 : Memref sig .tc .vmem S8x128 .f32) (h16 : a16.IsWhole)
  (x0 : Vec F S64x40x128 .fp8e5m2) (x1 : Vec F S64x40 .f32) (x2 : Vec F S64x8x128 .fp8e5m2) (x3 : Vec F S64x8 .f32) (x4 : Vec F S64x40x128 .fp8e4m3) (x5 : Vec F S64x40 .f32) (x6 : Vec F S64x8x128 .fp8e4m3) (x7 : Vec F S64x8 .f32) (x8 : Vec F S1x128 .f32) (x9 : Vec F S1x128 .f32) (x10 : Vec F S64x128 .f32) (x11 : Vec F S64x128 .f32)
  (y14 : Vec F S40x128 .f32) (y15 : Vec F S8x128 .f32)

/-- At the first point: the query heads' gradient. -/
theorem outA_12 (hc : cond0_0 i) :
    out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = qDx x0 x1 x4 x5 x8 x10 x11 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_unit_zero hz3]
  unfold qDx
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At the first point: the key heads' gradient. -/
theorem outA_13 (hc : cond0_0 i) :
    out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = kDx x2 x3 x6 x7 x9 x10 x11 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_unit_zero hz3]
  unfold kDx
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At the first point: the query heads' accumulator. -/
theorem outA_14 (hc : cond0_0 i) :
    out0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = qDg x0 x1 x4 x5 x10 x11 k0_pay2 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S40x128) hz2, View.readCov_unit_zero (S := S40x128) _ hz2]
  unfold qDg
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At the first point: the key heads' accumulator. -/
theorem outA_15 (hc : cond0_0 i) :
    out0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = kDg x2 x3 x6 x7 x10 x11 k0_pay3 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S8x128) hz2, View.readCov_unit_zero (S := S8x128) _ hz2]
  unfold kDg
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At any other point: the query heads' gradient. -/
theorem outB_12 (hc : ¬cond0_0 i) :
    out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15
      = qDx x0 x1 x4 x5 x8 x10 x11 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15)]
  unfold kernelRun0_B
  dsimp only
  sl_unfold_words
  rw [View.canon_unit_zero hz3]
  unfold qDx
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At any other point: the key heads' gradient. -/
theorem outB_13 (hc : ¬cond0_0 i) :
    out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15
      = kDx x2 x3 x6 x7 x9 x10 x11 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15)]
  unfold kernelRun0_B
  dsimp only
  sl_unfold_words
  rw [View.canon_unit_zero hz3]
  unfold kDx
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At any other point: the query heads' accumulator. -/
theorem outB_14 (hc : ¬cond0_0 i) :
    out0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15
      = qDg x0 x1 x4 x5 x10 x11 y14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15)]
  unfold kernelRun0_B
  dsimp only
  sl_unfold_words
  rw [View.canon_unit_zero hz2]
  unfold qDg
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

/-- At any other point: the key heads' accumulator. -/
theorem outB_15 (hc : ¬cond0_0 i) :
    out0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15
      = kDg x2 x3 x6 x7 x10 x11 y15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y14 y15)]
  unfold kernelRun0_B
  dsimp only
  sl_unfold_words
  rw [View.canon_unit_zero hz2]
  unfold kDg
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x40x128) hz3, View.ld_unit_zero (S := S64x8x128) hz3, View.ld_unit_zero (S := S64x40) hz2, View.ld_unit_zero (S := S64x8) hz2, View.ld_unit_zero (S := S1x128) hz2, View.ld_unit_zero (S := S64x128) hz2, View.ld_unit_zero (S := S40x128) hz2, View.ld_unit_zero (S := S8x128) hz2]

end Cert.Proof

end
-- ==== Proof.KernelPlace.lean ====
/- Where each block lies in its array: block `t` of a token array holds tokens `64 t .. 64 t + 63`, and the weights'
   one block is the whole array. -/
module

public import proofs.«01_k».proof.Proof.KernelBlock
public import proofs.«01_k».proof.Proof.KernelOut

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- Token `r` of block `t`. -/
def tok (t : Fin cfg0.N) (r : Fin 64) : Fin 24576 :=
  ⟨t.val * 64 + r.val, by have hN : cfg0.N = 384 := N_0; have := t.isLt; have := r.isLt; omega⟩

/-! ## The block indices, decided over the grid -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)
theorem idx13 : ∀ t : Fin cfg0.N, win0_13.index t 0 = t.val ∧ win0_13.index t 1 = 0 ∧ win0_13.index t 2 = 0 :=
  (by decide +kernel : ∀ t : Fin grid0.N, win0_13.index t 0 = t.val ∧ win0_13.index t 1 = 0 ∧ win0_13.index t 2 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)

/-! ## The input blocks, at an index -/

theorem iblk0 (t : Fin cfg0.N) (r : Fin 64) (h : Fin 40) (l : Fin 128) :
    (iblk m c 0 t : Vec Ideal S64x40x128 .fp8e5m2) (ix3 r h l) = V m c main_v22 (ix3 (tok t r) h l) := by
  unfold iblk
  rw [View.read_apply]
  show V m c main_v22 _ = V m c main_v22 _
  refine congrArg _ (funext fun a => Fin.ext ?_)
  obtain ⟨h0, h1, h2⟩ := idx0 t
  match a with
  | ⟨0, _⟩ => show win0_0.index t 0 * 64 + 1 * r.val = t.val * 64 + r.val; rw [h0]; omega
  | ⟨1, _⟩ => show win0_0.index t 1 * 40 + 1 * h.val = h.val; rw [h1]; omega
  | ⟨2, _⟩ => show win0_0.index t 2 * 128 + 1 * l.val = l.val; rw [h2]; omega

theorem iblk1 (t : Fin cfg0.N) (r : Fin 64) (h : Fin 40) :
    (iblk m c 1 t : Vec Ideal S64x40 .f32) (ix2 r h) = V m c main_v23 (ix2 (tok t r) h) := by
  unfold iblk
  rw [View.read_apply]
  show V m c main_v23 _ = V m c main_v23 _
  refine congrArg _ (funext fun a => Fin.ext ?_)
  obtain ⟨h0, h1⟩ := idx1 t
  match a with
  | ⟨0, _⟩ => show win0_1.index t 0 * 64 + 1 * r.val = t.val * 64 + r.val; rw [h0]; omega
  | ⟨1, _⟩ => show win0_1.index t 1 * 40 + 1 * h.val = h.val; rw [h1]; omega

theorem iblk2 (t : Fin cfg0.N) (r : Fin 64) (h : Fin 8) (l : Fin 128) :
    (iblk m c 2 t : Vec Ideal S64x8x128 .fp8e5m2) (ix3 r h l) = V m c main_v24 (ix3 (tok t r) h l) := by
  unfold iblk
  rw [View.read_apply]
  show V m c main_v24 _ = V m c main_v24 _
  refine congrArg _ (funext fun a => Fin.ext ?_)
  obtain ⟨h0, h1, h2⟩ := idx2 t
  match a with
  | ⟨0, _⟩ => show win0_2.index t 0 * 64 + 1 * r.val = t.val * 64 + r.val; rw [h0]; omega
  | ⟨1, _⟩ => show win0_2.index t 1 * 8 + 1 * h.val = h.val; rw [h1]; omega
  | ⟨2, _⟩ => show win0_2.index t 2 * 128 + 1 * l.val = l.val; rw [h2]; omega

theorem iblk3 (t : Fin cfg0.N) (r : Fin 64) (h : Fin 8) :
    (iblk m c 3 t : Vec Ideal S64x8 .f32) (ix2 r h) = V m c main_v25 (ix2 (tok t r) h) := by
  unfold iblk
  rw [View.read_apply]
  show V m c main_v25 _ = V m c main_v25 _
  refine congrArg _ (funext fun a => Fin.ext ?_)
  obtain ⟨h0, h1⟩ := idx3 t
  match a with
  | ⟨0, _⟩ => show win0_3.index t 0 * 64 + 1 * r.val = t.val * 64 + r.val; rw [h0]; omega
  | ⟨1, _⟩ => show win0_3.index t 1 * 8 + 1 * h.val = h.val; rw [h1]; omega

theorem iblk4 (t : Fin cfg0.N) (r : Fin 64) (h : Fin 40) (l : Fin 128) :
    (iblk m c 4 t : Vec Ideal S64x40x128 .fp8e4m3) (ix3 r h l) = V m c main_v26 (ix3 (tok t r) h l) := by
  unfold iblk
  rw [View.read_apply]
  show V m c main_v26 _ = V m c main_v26 _
  refine congrArg _ (funext fun a => Fin.ext ?_)
  obtain ⟨h0, h1, h2⟩ := idx4 t
  match a with
  | ⟨0, _⟩ => show win0_4.index t 0 * 64 + 1 * r.val = t.val * 64 + r.val; rw [h0]; omega
  | ⟨1, _⟩ => show win0_4.index t 1 * 40 + 1 * h.val = h.val; rw [h1]; omega
  | ⟨2, _⟩ => show win0_4.index t 2 * 128 + 1 * l.val = l.val; rw [h2]; omega

theorem iblk5 (t : Fin cfg0.N) (r : Fin 64) (h : Fin 40) :
    (iblk m c 5 t : Vec Ideal S64x40 .f32) (ix2 r h) = V m c main_v27 (ix2 (tok t r) h) := by
  unfold iblk
  rw [View.read_apply]
  show V m c main_v27 _ = V m c main_v27 _
  refine congrArg _ (funext fun a => Fin.ext ?_)
  obtain ⟨h0, h1⟩ := idx5 t
  match a with
  | ⟨0, _⟩ => show win0_5.index t 0 * 64 + 1 * r.val = t.val * 64 + r.val; rw [h0]; omega
  | ⟨1, _⟩ => show win0_5.index t 1 * 40 + 1 * h.val = h.val; rw [h1]; omega

theorem iblk6 (t : Fin cfg0.N) (r : Fin 64) (h : Fin 8) (l : Fin 128) :
    (iblk m c 6 t : Vec Ideal S64x8x128 .fp8e4m3) (ix3 r h l) = V m c main_v28 (ix3 (tok t r) h l) := by
  unfold iblk
  rw [View.read_apply]
  show V m c main_v28 _ = V m c main_v28 _
  refine congrArg _ (funext fun a => Fin.ext ?_)
  obtain ⟨h0, h1, h2⟩ := idx6 t
  match a with
  | ⟨0, _⟩ => show win0_6.index t 0 * 64 + 1 * r.val = t.val * 64 + r.val; rw [h0]; omega
  | ⟨1, _⟩ => show win0_6.index t 1 * 8 + 1 * h.val = h.val; rw [h1]; omega
  | ⟨2, _⟩ => show win0_6.index t 2 * 128 + 1 * l.val = l.val; rw [h2]; omega

theorem iblk7 (t : Fin cfg0.N) (r : Fin 64) (h : Fin 8) :
    (iblk m c 7 t : Vec Ideal S64x8 .f32) (ix2 r h) = V m c main_v29 (ix2 (tok t r) h) := by
  unfold iblk
  rw [View.read_apply]
  show V m c main_v29 _ = V m c main_v29 _
  refine congrArg _ (funext fun a => Fin.ext ?_)
  obtain ⟨h0, h1⟩ := idx7 t
  match a with
  | ⟨0, _⟩ => show win0_7.index t 0 * 64 + 1 * r.val = t.val * 64 + r.val; rw [h0]; omega
  | ⟨1, _⟩ => show win0_7.index t 1 * 8 + 1 * h.val = h.val; rw [h1]; omega

theorem iblk10 (t : Fin cfg0.N) (r : Fin 64) (h : Fin 128) :
    (iblk m c 10 t : Vec Ideal S64x128 .f32) (ix2 r h) = V m c main_v18 (ix2 (tok t r) h) := by
  unfold iblk
  rw [View.read_apply]
  show V m c main_v18 _ = V m c main_v18 _
  refine congrArg _ (funext fun a => Fin.ext ?_)
  obtain ⟨h0, h1⟩ := idx10 t
  match a with
  | ⟨0, _⟩ => show win0_10.index t 0 * 64 + 1 * r.val = t.val * 64 + r.val; rw [h0]; omega
  | ⟨1, _⟩ => show win0_10.index t 1 * 128 + 1 * h.val = h.val; rw [h1]; omega

theorem iblk11 (t : Fin cfg0.N) (r : Fin 64) (h : Fin 128) :
    (iblk m c 11 t : Vec Ideal S64x128 .f32) (ix2 r h) = V m c main_v21 (ix2 (tok t r) h) := by
  unfold iblk
  rw [View.read_apply]
  show V m c main_v21 _ = V m c main_v21 _
  refine congrArg _ (funext fun a => Fin.ext ?_)
  obtain ⟨h0, h1⟩ := idx11 t
  match a with
  | ⟨0, _⟩ => show win0_11.index t 0 * 64 + 1 * r.val = t.val * 64 + r.val; rw [h0]; omega
  | ⟨1, _⟩ => show win0_11.index t 1 * 128 + 1 * h.val = h.val; rw [h1]; omega

theorem iblk8 (t : Fin cfg0.N) (r : Fin 1) (h : Fin 128) :
    (iblk m c 8 t : Vec Ideal S1x128 .f32) (ix2 r h) = V m c main_v30 (ix2 r h) := by
  unfold iblk
  rw [View.read_apply]
  show V m c main_v30 _ = V m c main_v30 _
  refine congrArg _ (funext fun a => Fin.ext ?_)
  obtain ⟨h0, h1⟩ := idx8 t
  match a with
  | ⟨0, _⟩ => show win0_8.index t 0 * 1 + 1 * r.val = r.val; rw [h0]; omega
  | ⟨1, _⟩ => show win0_8.index t 1 * 128 + 1 * h.val = h.val; rw [h1]; omega

theorem iblk9 (t : Fin cfg0.N) (r : Fin 1) (h : Fin 128) :
    (iblk m c 9 t : Vec Ideal S1x128 .f32) (ix2 r h) = V m c main_v31 (ix2 r h) := by
  unfold iblk
  rw [View.read_apply]
  show V m c main_v31 _ = V m c main_v31 _
  refine congrArg _ (funext fun a => Fin.ext ?_)
  obtain ⟨h0, h1⟩ := idx9 t
  match a with
  | ⟨0, _⟩ => show win0_9.index t 0 * 1 + 1 * r.val = r.val; rw [h0]; omega
  | ⟨1, _⟩ => show win0_9.index t 1 * 128 + 1 * h.val = h.val; rw [h1]; omega

/-! ## Where an output block's element lies -/

theorem emb12 (t : Fin cfg0.N) (r : Fin 64) (h : Fin 40) (l : Fin 128) :
    (((cfg0.win 12).blk t).view.emb (ix3 r h l : S64x40x128.Idx) : S24576x40x128.Idx) = ix3 (tok t r) h l := by
  refine funext fun a => Fin.ext ?_
  obtain ⟨h0, h1, h2⟩ := idx12 t
  match a with
  | ⟨0, _⟩ => show win0_12.index t 0 * 64 + 1 * r.val = t.val * 64 + r.val; rw [h0]; omega
  | ⟨1, _⟩ => show win0_12.index t 1 * 40 + 1 * h.val = h.val; rw [h1]; omega
  | ⟨2, _⟩ => show win0_12.index t 2 * 128 + 1 * l.val = l.val; rw [h2]; omega

theorem emb13 (t : Fin cfg0.N) (r : Fin 64) (h : Fin 8) (l : Fin 128) :
    (((cfg0.win 13).blk t).view.emb (ix3 r h l : S64x8x128.Idx) : S24576x8x128.Idx) = ix3 (tok t r) h l := by
  refine funext fun a => Fin.ext ?_
  obtain ⟨h0, h1, h2⟩ := idx13 t
  match a with
  | ⟨0, _⟩ => show win0_13.index t 0 * 64 + 1 * r.val = t.val * 64 + r.val; rw [h0]; omega
  | ⟨1, _⟩ => show win0_13.index t 1 * 8 + 1 * h.val = h.val; rw [h1]; omega
  | ⟨2, _⟩ => show win0_13.index t 2 * 128 + 1 * l.val = l.val; rw [h2]; omega

theorem emb14 (t : Fin cfg0.N) (h : Fin 40) (l : Fin 128) :
    (((cfg0.win 14).blk t).view.emb (ix2 h l : S40x128.Idx) : S40x128.Idx) = ix2 h l := by
  refine funext fun a => Fin.ext ?_
  obtain ⟨h0, h1⟩ := idx14 t
  match a with
  | ⟨0, _⟩ => show win0_14.index t 0 * 40 + 1 * h.val = h.val; rw [h0]; omega
  | ⟨1, _⟩ => show win0_14.index t 1 * 128 + 1 * l.val = l.val; rw [h1]; omega

theorem emb15 (t : Fin cfg0.N) (h : Fin 8) (l : Fin 128) :
    (((cfg0.win 15).blk t).view.emb (ix2 h l : S8x128.Idx) : S8x128.Idx) = ix2 h l := by
  refine funext fun a => Fin.ext ?_
  obtain ⟨h0, h1⟩ := idx15 t
  match a with
  | ⟨0, _⟩ => show win0_15.index t 0 * 8 + 1 * h.val = h.val; rw [h0]; omega
  | ⟨1, _⟩ => show win0_15.index t 1 * 128 + 1 * l.val = l.val; rw [h1]; omega

/-! ## The array's rows and the rows of its blocks -/

/-- The query heads' gradient codes, decoded. -/
def dyQ (n : Fin 24576) (h : Fin 40) : Row :=
  blkRow (V m c main_v22 : Vec Ideal S24576x40x128 .fp8e5m2) (V m c main_v23 : Vec Ideal S24576x40 .f32) n h
/-- The key heads' gradient codes, decoded. -/
def dyK (n : Fin 24576) (h : Fin 8) : Row :=
  blkRow (V m c main_v24 : Vec Ideal S24576x8x128 .fp8e5m2) (V m c main_v25 : Vec Ideal S24576x8 .f32) n h
/-- The query heads, decoded. -/
def xQ (n : Fin 24576) (h : Fin 40) : Row :=
  blkRow (V m c main_v26 : Vec Ideal S24576x40x128 .fp8e4m3) (V m c main_v27 : Vec Ideal S24576x40 .f32) n h
/-- The key heads, decoded. -/
def xK (n : Fin 24576) (h : Fin 8) : Row :=
  blkRow (V m c main_v28 : Vec Ideal S24576x8x128 .fp8e4m3) (V m c main_v29 : Vec Ideal S24576x8 .f32) n h
/-- The cosine table's row. -/
def cosT (n : Fin 24576) : Row := tabRow (V m c main_v18 : Vec Ideal S24576x128 .f32) n
/-- The sine table's row. -/
def sinT (n : Fin 24576) : Row := tabRow (V m c main_v21 : Vec Ideal S24576x128 .f32) n
/-- The query weights. -/
def gQ : Row := gRow (V m c main_v30 : Vec Ideal S1x128 .f32)
/-- The key weights. -/
def gK : Row := gRow (V m c main_v31 : Vec Ideal S1x128 .f32)

variable (t : Fin cfg0.N) (r : Fin 64)

theorem dyQ_blk (h : Fin 40) :
    blkRow (iblk m c 0 t : Vec Ideal S64x40x128 .fp8e5m2) (iblk m c 1 t : Vec Ideal S64x40 .f32) r h = dyQ m c (tok t r) h := by
  funext l; unfold blkRow dyQ blkRow; rw [iblk0, iblk1]
theorem dyK_blk (h : Fin 8) :
    blkRow (iblk m c 2 t : Vec Ideal S64x8x128 .fp8e5m2) (iblk m c 3 t : Vec Ideal S64x8 .f32) r h = dyK m c (tok t r) h := by
  funext l; unfold blkRow dyK blkRow; rw [iblk2, iblk3]
theorem xQ_blk (h : Fin 40) :
    blkRow (iblk m c 4 t : Vec Ideal S64x40x128 .fp8e4m3) (iblk m c 5 t : Vec Ideal S64x40 .f32) r h = xQ m c (tok t r) h := by
  funext l; unfold blkRow xQ blkRow; rw [iblk4, iblk5]
theorem xK_blk (h : Fin 8) :
    blkRow (iblk m c 6 t : Vec Ideal S64x8x128 .fp8e4m3) (iblk m c 7 t : Vec Ideal S64x8 .f32) r h = xK m c (tok t r) h := by
  funext l; unfold blkRow xK blkRow; rw [iblk6, iblk7]
theorem cosT_blk : tabRow (iblk m c 10 t : Vec Ideal S64x128 .f32) r = cosT m c (tok t r) := by
  funext l; unfold tabRow cosT tabRow; rw [iblk10]
theorem sinT_blk : tabRow (iblk m c 11 t : Vec Ideal S64x128 .f32) r = sinT m c (tok t r) := by
  funext l; unfold tabRow sinT tabRow; rw [iblk11]
theorem gQ_blk : gRow (iblk m c 8 t : Vec Ideal S1x128 .f32) = gQ m c := by
  funext l; unfold gRow gQ gRow; rw [iblk8]
theorem gK_blk : gRow (iblk m c 9 t : Vec Ideal S1x128 .f32) = gK m c := by
  funext l; unfold gRow gK gRow; rw [iblk9]

end Cert.Proof

end
-- ==== Proof.KernelArr.lean ====
/- What the kernel's four output arrays hold after the run: at every token, head and lane the two input gradients, and
   at every head and lane the two weight gradients summed over the grid's points and each point's tokens. -/
module

public import proofs.«01_k».proof.Proof.KernelPlace

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The query heads' rotated gradient. -/
def dnQ (n : Fin 24576) (h : Fin 40) : Row := rotFull (dyQ m c n h) (cosT m c n) (sinT m c n)
/-- The key heads' rotated gradient. -/
def dnK (n : Fin 24576) (h : Fin 8) : Row := rotFull (dyK m c n h) (cosT m c n) (sinT m c n)

/-! ## The query heads' input gradient -/

/-- The array after the run. -/
def dxQ : Vec Ideal S24576x40x128 .bf16 := fun i =>
  dxOuter (dnQ m c (i 0) (i 1)) (xQ m c (i 0) (i 1)) (gQ m c) (i 2)

/-- Both cases leave the same value of the point's blocks. -/
theorem outs12 (t : Fin cfg0.N) : (outsAt0 m c t.val t.isLt).1 = qDx (iblk m c 0 t) (iblk m c 1 t) (iblk m c 4 t) (iblk m c 5 t) (iblk m c 8 t) (iblk m c 10 t) (iblk m c 11 t) := by
  by_cases h0 : t.val % 384 = 0
  · refine (congrArg (fun o => o.1) (outsAt0_A m c t h0)).trans ?_
    dsimp only
    rw [outA_12]
  · refine (congrArg (fun o => o.1) (outsAt0_B m c t h0)).trans ?_
    dsimp only
    rw [outB_12]

/-- A point's block is the array's block. -/
theorem flushed12 (t : Fin cfg0.N) :
    (dats m 0 c).flushed 12 t = ((cfg0.win 12).blk t).view.read (Elt Ideal) (dxQ m c) := by
  funext j
  rw [View.read_apply]
  show (dats m 0 c).after 12 t j = dxQ m c (((cfg0.win 12).blk t).view.emb j)
  rw [after0_12, outs12]
  obtain ⟨r, h, l, rfl⟩ : ∃ (r : Fin 64) (h : Fin 40) (l : Fin 128), j = (ix3 r h l : S64x40x128.Idx) :=
    ⟨_, _, _, ValueIdx.eq_ix3 (n0 := 64) (n1 := 40) (n2 := 128) j⟩
  rw [emb12]
  show qDx (iblk m c 0 t) (iblk m c 1 t) (iblk m c 4 t) (iblk m c 5 t) (iblk m c 8 t) (iblk m c 10 t) (iblk m c 11 t) (ix3 r h l) = _
  unfold qDx dxQ dnQ
  rw [q_dx, dyQ_blk, xQ_blk, cosT_blk, sinT_blk, gQ_blk]
  rfl

/-- The array after the run: every token lies in one point's block. -/
theorem final12 : (dats m 0 c).arrAt 12 cfg0.N = dxQ m c :=
  (dats m 0 c).arrAt_eq_of_cover 12 (dxQ m c) (fun t _ => flushed12 m c t) fun i => by
    obtain ⟨n, h, l, rfl⟩ : ∃ (n : Fin 24576) (h : Fin 40) (l : Fin 128), i = (ix3 n h l : S24576x40x128.Idx) :=
      ⟨_, _, _, ValueIdx.eq_ix3 (n0 := 24576) (n1 := 40) (n2 := 128) i⟩
    have hN : cfg0.N = 384 := N_0
    have hn := n.isLt
    refine ⟨⟨n.val / 64, by omega⟩, flush0_12 _, ?_⟩
    refine Finset.mem_map.mpr ⟨(ix3 ⟨n.val % 64, Nat.mod_lt _ (by decide)⟩ h l : S64x40x128.Idx), Finset.mem_univ _, ?_⟩
    refine (emb12 _ _ _ _).trans ?_
    refine congrArg (fun k => (ix3 k h l : S24576x40x128.Idx)) (Fin.ext ?_)
    show n.val / 64 * 64 + n.val % 64 = n.val
    omega

/-! ## The key heads' input gradient -/

/-- The array after the run. -/
def dxK : Vec Ideal S24576x8x128 .bf16 := fun i =>
  dxOuter (dnK m c (i 0) (i 1)) (xK m c (i 0) (i 1)) (gK m c) (i 2)

/-- Both cases leave the same value of the point's blocks. -/
theorem outs13 (t : Fin cfg0.N) : (outsAt0 m c t.val t.isLt).2.1 = kDx (iblk m c 2 t) (iblk m c 3 t) (iblk m c 6 t) (iblk m c 7 t) (iblk m c 9 t) (iblk m c 10 t) (iblk m c 11 t) := by
  by_cases h0 : t.val % 384 = 0
  · refine (congrArg (fun o => o.2.1) (outsAt0_A m c t h0)).trans ?_
    dsimp only
    rw [outA_13]
  · refine (congrArg (fun o => o.2.1) (outsAt0_B m c t h0)).trans ?_
    dsimp only
    rw [outB_13]

/-- A point's block is the array's block. -/
theorem flushed13 (t : Fin cfg0.N) :
    (dats m 0 c).flushed 13 t = ((cfg0.win 13).blk t).view.read (Elt Ideal) (dxK m c) := by
  funext j
  rw [View.read_apply]
  show (dats m 0 c).after 13 t j = dxK m c (((cfg0.win 13).blk t).view.emb j)
  rw [after0_13, outs13]
  obtain ⟨r, h, l, rfl⟩ : ∃ (r : Fin 64) (h : Fin 8) (l : Fin 128), j = (ix3 r h l : S64x8x128.Idx) :=
    ⟨_, _, _, ValueIdx.eq_ix3 (n0 := 64) (n1 := 8) (n2 := 128) j⟩
  rw [emb13]
  show kDx (iblk m c 2 t) (iblk m c 3 t) (iblk m c 6 t) (iblk m c 7 t) (iblk m c 9 t) (iblk m c 10 t) (iblk m c 11 t) (ix3 r h l) = _
  unfold kDx dxK dnK
  rw [k_dx, dyK_blk, xK_blk, cosT_blk, sinT_blk, gK_blk]
  rfl

/-- The array after the run: every token lies in one point's block. -/
theorem final13 : (dats m 0 c).arrAt 13 cfg0.N = dxK m c :=
  (dats m 0 c).arrAt_eq_of_cover 13 (dxK m c) (fun t _ => flushed13 m c t) fun i => by
    obtain ⟨n, h, l, rfl⟩ : ∃ (n : Fin 24576) (h : Fin 8) (l : Fin 128), i = (ix3 n h l : S24576x8x128.Idx) :=
      ⟨_, _, _, ValueIdx.eq_ix3 (n0 := 24576) (n1 := 8) (n2 := 128) i⟩
    have hN : cfg0.N = 384 := N_0
    have hn := n.isLt
    refine ⟨⟨n.val / 64, by omega⟩, flush0_13 _, ?_⟩
    refine Finset.mem_map.mpr ⟨(ix3 ⟨n.val % 64, Nat.mod_lt _ (by decide)⟩ h l : S64x8x128.Idx), Finset.mem_univ _, ?_⟩
    refine (emb13 _ _ _ _).trans ?_
    refine congrArg (fun k => (ix3 k h l : S24576x8x128.Idx)) (Fin.ext ?_)
    show n.val / 64 * 64 + n.val % 64 = n.val
    omega

/-! ## The query heads' weight gradient -/

/-- A point's contribution: the sum over its 64 tokens. -/
def partQ (t : Fin cfg0.N) (h : Fin 40) (l : Fin 128) : EReal :=
  ∑ r : Fin 64, dgRow (dnQ m c (tok t r) h) (xQ m c (tok t r) h) l

/-- The array after the run. -/
def dgQ : Vec Ideal S40x128 .f32 := fun i => ∑ t : Fin cfg0.N, partQ m c t (i 0) (i 1)

/-- The body adds the point's contribution to what the accumulator held. -/
theorem step14 (t : Fin cfg0.N) (v : Vec Ideal S40x128 .f32) (h : Fin 40) (l : Fin 128) :
    qDg (iblk m c 0 t) (iblk m c 1 t) (iblk m c 4 t) (iblk m c 5 t) (iblk m c 10 t) (iblk m c 11 t) v (ix2 h l)
      = v (ix2 h l) + partQ m c t h l := by
  unfold qDg partQ dnQ
  rw [q_dg]
  simp only [dyQ_blk, xQ_blk, cosT_blk, sinT_blk]

/-- The accumulator after point `n`: the contributions of the points up to `n`. -/
theorem outs14 : ∀ (n : ℕ) (hn : n < cfg0.N) (h : Fin 40) (l : Fin 128),
    (outsAt0 m c n hn).2.2.1 (ix2 h l)
      = ∑ k : Fin (n + 1), partQ m c ⟨k.val, Nat.lt_of_lt_of_le k.isLt hn⟩ h l
  | 0, hn, h, l => by
    have e := congrArg (fun o => o.2.2.1 (ix2 h l)) (outsAt0_A m c ⟨0, hn⟩ rfl)
    refine e.trans ?_
    dsimp only
    rw [outA_14, step14, zero_q, zero_add, Fin.sum_univ_one]
    rfl
  | n + 1, hn, h, l => by
    have hN : cfg0.N = 384 := N_0
    have hB : ¬(⟨n + 1, hn⟩ : Fin cfg0.N).val % 384 = 0 := by dsimp only; omega
    have e := congrArg (fun o => o.2.2.1 (ix2 h l)) (outsAt0_B m c ⟨n + 1, hn⟩ hB)
    refine e.trans ?_
    dsimp only
    rw [outB_14, step14, Fin.sum_univ_castSucc]
    refine congrArg₂ (· + ·) ?_ rfl
    exact outs14 n (Nat.lt_of_succ_lt hn) h l

/-- The last point writes the accumulator back, and its block is the whole array. -/
theorem final14 : (dats m 0 c).arrAt 14 cfg0.N = dgQ m c := by
  have hN : cfg0.N = 384 := N_0
  refine (dats m 0 c).arrAt_eq_of_cover 14 (dgQ m c) (fun t ht => ?_) fun i => ?_
  · have h383 : t.val = 383 := by have := (flush0_14 t).mp ht; have := t.isLt; omega
    funext j
    rw [View.read_apply]
    show (dats m 0 c).after 14 t j = dgQ m c (((cfg0.win 14).blk t).view.emb j)
    rw [after0_14]
    obtain ⟨h, l, rfl⟩ : ∃ (h : Fin 40) (l : Fin 128), j = (ix2 h l : S40x128.Idx) :=
      ⟨_, _, ValueIdx.eq_ix2 (n0 := 40) (n1 := 128) j⟩
    rw [emb14]
    refine (outs14 m c t.val t.isLt h l).trans ?_
    have hn : t.val + 1 = cfg0.N := by omega
    exact Fintype.sum_equiv (finCongr hn) _ _ fun k => rfl
  · obtain ⟨h, l, rfl⟩ : ∃ (h : Fin 40) (l : Fin 128), i = (ix2 h l : S40x128.Idx) :=
      ⟨_, _, ValueIdx.eq_ix2 (n0 := 40) (n1 := 128) i⟩
    refine ⟨⟨383, by omega⟩, (flush0_14 _).mpr rfl, ?_⟩
    exact Finset.mem_map.mpr ⟨(ix2 h l : S40x128.Idx), Finset.mem_univ _, emb14 _ _ _⟩

/-! ## The key heads' weight gradient -/

/-- A point's contribution: the sum over its 64 tokens. -/
def partK (t : Fin cfg0.N) (h : Fin 8) (l : Fin 128) : EReal :=
  ∑ r : Fin 64, dgRow (dnK m c (tok t r) h) (xK m c (tok t r) h) l

/-- The array after the run. -/
def dgK : Vec Ideal S8x128 .f32 := fun i => ∑ t : Fin cfg0.N, partK m c t (i 0) (i 1)

/-- The body adds the point's contribution to what the accumulator held. -/
theorem step15 (t : Fin cfg0.N) (v : Vec Ideal S8x128 .f32) (h : Fin 8) (l : Fin 128) :
    kDg (iblk m c 2 t) (iblk m c 3 t) (iblk m c 6 t) (iblk m c 7 t) (iblk m c 10 t) (iblk m c 11 t) v (ix2 h l)
      = v (ix2 h l) + partK m c t h l := by
  unfold kDg partK dnK
  rw [k_dg]
  simp only [dyK_blk, xK_blk, cosT_blk, sinT_blk]

/-- The accumulator after point `n`: the contributions of the points up to `n`. -/
theorem outs15 : ∀ (n : ℕ) (hn : n < cfg0.N) (h : Fin 8) (l : Fin 128),
    (outsAt0 m c n hn).2.2.2 (ix2 h l)
      = ∑ k : Fin (n + 1), partK m c ⟨k.val, Nat.lt_of_lt_of_le k.isLt hn⟩ h l
  | 0, hn, h, l => by
    have e := congrArg (fun o => o.2.2.2 (ix2 h l)) (outsAt0_A m c ⟨0, hn⟩ rfl)
    refine e.trans ?_
    dsimp only
    rw [outA_15, step15, zero_k, zero_add, Fin.sum_univ_one]
    rfl
  | n + 1, hn, h, l => by
    have hN : cfg0.N = 384 := N_0
    have hB : ¬(⟨n + 1, hn⟩ : Fin cfg0.N).val % 384 = 0 := by dsimp only; omega
    have e := congrArg (fun o => o.2.2.2 (ix2 h l)) (outsAt0_B m c ⟨n + 1, hn⟩ hB)
    refine e.trans ?_
    dsimp only
    rw [outB_15, step15, Fin.sum_univ_castSucc]
    refine congrArg₂ (· + ·) ?_ rfl
    exact outs15 n (Nat.lt_of_succ_lt hn) h l

/-- The last point writes the accumulator back, and its block is the whole array. -/
theorem final15 : (dats m 0 c).arrAt 15 cfg0.N = dgK m c := by
  have hN : cfg0.N = 384 := N_0
  refine (dats m 0 c).arrAt_eq_of_cover 15 (dgK m c) (fun t ht => ?_) fun i => ?_
  · have h383 : t.val = 383 := by have := (flush0_15 t).mp ht; have := t.isLt; omega
    funext j
    rw [View.read_apply]
    show (dats m 0 c).after 15 t j = dgK m c (((cfg0.win 15).blk t).view.emb j)
    rw [after0_15]
    obtain ⟨h, l, rfl⟩ : ∃ (h : Fin 8) (l : Fin 128), j = (ix2 h l : S8x128.Idx) :=
      ⟨_, _, ValueIdx.eq_ix2 (n0 := 8) (n1 := 128) j⟩
    rw [emb15]
    refine (outs15 m c t.val t.isLt h l).trans ?_
    have hn : t.val + 1 = cfg0.N := by omega
    exact Fintype.sum_equiv (finCongr hn) _ _ fun k => rfl
  · obtain ⟨h, l, rfl⟩ : ∃ (h : Fin 8) (l : Fin 128), i = (ix2 h l : S8x128.Idx) :=
      ⟨_, _, ValueIdx.eq_ix2 (n0 := 8) (n1 := 128) i⟩
    refine ⟨⟨383, by omega⟩, (flush0_15 _).mpr rfl, ?_⟩
    exact Finset.mem_map.mpr ⟨(ix2 h l : S8x128.Idx), Finset.mem_univ _, emb15 _ _ _⟩

end Cert.Proof

end
-- ==== Proof.Spec.lean ====
/- The four results as functions of the eleven arguments, over the extended reals: the rows the arguments decode to, the
   rotation tables of the positions, the two input gradients, the two weight gradients; and the two ways a sum over all
   tokens is grouped. -/
module

public import proofs.«01_k».proof.Proof.Row
public import Idealize.ShloMosaic.Lib.Pointwise

@[expose] public section

noncomputable section

namespace Cert.Proof

open Idealize.ShloMosaic

/-- The shape of an array of codes: batch, position, `H` heads, 128 lanes. -/
abbrev Codes (H : ℕ) : Shape := ⟨4, ![12, 2048, H, 128]⟩
/-- The shape of its scales. -/
abbrev Scales (H : ℕ) : Shape := ⟨3, ![12, 2048, H]⟩
/-- The shape of the positions. -/
abbrev Positions : Shape := ⟨2, ![12, 2048]⟩
/-- The shape of a weight vector. -/
abbrev Weights : Shape := ⟨1, ![128]⟩

section Rows
variable {H : ℕ} (x : (Codes H).Idx → EReal) (sc : (Scales H).Idx → EReal) (p : Positions.Idx → BitVec 32)
  (b : Fin 12) (s : Fin 2048)

/-- The row of one head of one token: its codes times their scale. -/
def tokenRow (h : Fin H) : Row := fun l => x (ix4 b s h l) * sc (ix3 b s h)

/-- The rotation angles of one token: its position times the 32 inverse frequencies `1e6 ^ -(2 i / 64)`. -/
def angle : HalfRow := fun i =>
  FloatOps.sitofp (F := Ideal) FTy.f32 (p (ix2 b s)) *
    Ideal.pow (Ideal.ofBits .f32 1232348160#32)
      (-Ideal.div (Ideal.ofBits .f32 1073741824#32 * FloatOps.sitofp (F := Ideal) FTy.f32 (BitVec.ofNat 32 i.val))
          (Ideal.ofBits .f32 1115684864#32))

/-- Their cosines. -/
def cosRow : HalfRow := fun i => Ideal.cos (angle p b s i)
/-- Their sines. -/
def sinRow : HalfRow := fun i => Ideal.sin (angle p b s i)

/-- The rotated gradient's row. -/
def dnRow (h : Fin H) : Row := rotHalf (tokenRow x sc b s h) (cosRow p b s) (sinRow p b s)

end Rows

/-- The weights' row. -/
def weightRow (g : Weights.Idx → EReal) : Row := fun l => g (ix1 l)

variable {H : ℕ} (dy : (Codes H).Idx → EReal) (dys : (Scales H).Idx → EReal) (x : (Codes H).Idx → EReal)
  (xs : (Scales H).Idx → EReal) (g : Weights.Idx → EReal) (p : Positions.Idx → BitVec 32)

/-- The input gradient. -/
def inputGrad : (Codes H).Idx → EReal := fun i =>
  dxInner (dnRow dy dys p (i 0) (i 1) (i 2)) (tokenRow x xs (i 0) (i 1) (i 2)) (weightRow g) (i 3)

/-- The weight gradient: summed over batch, position and head. -/
def weightGrad : Weights.Idx → EReal := fun i =>
  ∑ b : Fin 12, ∑ s : Fin 2048, ∑ h : Fin H, dgRow (dnRow dy dys p b s h) (tokenRow x xs b s h) (i 0)

/-- A sum over `A * B` indices, as `A` runs of `B`. -/
theorem sum_split (A B N : ℕ) (hN : N = A * B) (f : Fin N → EReal)
    (e : Fin A → Fin B → Fin N) (he : ∀ a b, (e a b).val = a.val * B + b.val) :
    ∑ n, f n = ∑ a, ∑ b, f (e a b) := by
  subst hN
  rw [← Fintype.sum_prod_type', ← finProdFinEquiv.sum_comp]
  refine Finset.sum_congr rfl fun ab _ => congrArg f (Fin.ext ?_)
  rw [he]
  show ab.2.val + B * ab.1.val = _
  rw [Nat.mul_comm, Nat.add_comm]

/-- Token `s` of batch row `b`, counted over all batch rows. -/
def flat (b : Fin 12) (s : Fin 2048) : Fin 24576 := ⟨b.val * 2048 + s.val, by have := b.isLt; have := s.isLt; omega⟩

end Cert.Proof

end
-- ==== Proof.KernelHost.lean ====
/- The arrays the kernel's region is launched on, as the host lines before it leave them: the arguments' rows token by
   token, and the two full-width rotation tables over the half-width cosines and sines. -/
module

public import proofs.«01_k».proof.Proof.KernelPlace
public import proofs.«01_k».proof.Proof.Spec
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- Argument 0: dY of the query heads. -/
def arg0 : (Codes 40).Idx → EReal := m ((c.tc : Thread nD τ).loc main_arg0)
/-- Argument 1: their scales. -/
def arg1 : (Scales 40).Idx → EReal := m ((c.tc : Thread nD τ).loc main_arg1)
/-- Argument 2: dY of the key heads. -/
def arg2 : (Codes 8).Idx → EReal := m ((c.tc : Thread nD τ).loc main_arg2)
/-- Argument 3: their scales. -/
def arg3 : (Scales 8).Idx → EReal := m ((c.tc : Thread nD τ).loc main_arg3)
/-- Argument 4: the query heads. -/
def arg4 : (Codes 40).Idx → EReal := m ((c.tc : Thread nD τ).loc main_arg4)
/-- Argument 5: their scales. -/
def arg5 : (Scales 40).Idx → EReal := m ((c.tc : Thread nD τ).loc main_arg5)
/-- Argument 6: the key heads. -/
def arg6 : (Codes 8).Idx → EReal := m ((c.tc : Thread nD τ).loc main_arg6)
/-- Argument 7: their scales. -/
def arg7 : (Scales 8).Idx → EReal := m ((c.tc : Thread nD τ).loc main_arg7)
/-- Argument 8: the query weights. -/
def arg8 : Weights.Idx → EReal := m ((c.tc : Thread nD τ).loc main_arg8)
/-- Argument 9: the key weights. -/
def arg9 : Weights.Idx → EReal := m ((c.tc : Thread nD τ).loc main_arg9)
/-- Argument 10: the positions. -/
def arg10 : Positions.Idx → BitVec 32 := m ((c.tc : Thread nD τ).loc main_arg10)

variable (b : Fin 12) (s : Fin 2048)

theorem flat_div : (flat b s).val / 2048 = b.val := by
  show (b.val * 2048 + s.val) / 2048 = b.val; have := s.isLt; omega
theorem flat_mod : (flat b s).val % 2048 = s.val := by
  show (b.val * 2048 + s.val) % 2048 = s.val; have := s.isLt; omega

/-! ## The reshaped arguments -/

theorem entry22 (h : Fin 40) (l : Fin 128) : (V m c main_v22 : Vec Ideal S24576x40x128 .fp8e5m2) (ix3 (flat b s) h l) = arg0 m c (ix4 b s h l) := by
  show StableHlo.after hostOps0 (fun b => m (c, b)) (Proc.tc.devRef main_v22) _ = _
  after_results
  pointwise
  simp only [flat_div, flat_mod]
  rfl
theorem entry23 (h : Fin 40) : (V m c main_v23 : Vec Ideal S24576x40 .f32) (ix2 (flat b s) h) = arg1 m c (ix3 b s h) := by
  show StableHlo.after hostOps0 (fun b => m (c, b)) (Proc.tc.devRef main_v23) _ = _
  after_results
  pointwise
  simp only [flat_div, flat_mod]
  rfl
theorem entry24 (h : Fin 8) (l : Fin 128) : (V m c main_v24 : Vec Ideal S24576x8x128 .fp8e5m2) (ix3 (flat b s) h l) = arg2 m c (ix4 b s h l) := by
  show StableHlo.after hostOps0 (fun b => m (c, b)) (Proc.tc.devRef main_v24) _ = _
  after_results
  pointwise
  simp only [flat_div, flat_mod]
  rfl
theorem entry25 (h : Fin 8) : (V m c main_v25 : Vec Ideal S24576x8 .f32) (ix2 (flat b s) h) = arg3 m c (ix3 b s h) := by
  show StableHlo.after hostOps0 (fun b => m (c, b)) (Proc.tc.devRef main_v25) _ = _
  after_results
  pointwise
  simp only [flat_div, flat_mod]
  rfl
theorem entry26 (h : Fin 40) (l : Fin 128) : (V m c main_v26 : Vec Ideal S24576x40x128 .fp8e4m3) (ix3 (flat b s) h l) = arg4 m c (ix4 b s h l) := by
  show StableHlo.after hostOps0 (fun b => m (c, b)) (Proc.tc.devRef main_v26) _ = _
  after_results
  pointwise
  simp only [flat_div, flat_mod]
  rfl
theorem entry27 (h : Fin 40) : (V m c main_v27 : Vec Ideal S24576x40 .f32) (ix2 (flat b s) h) = arg5 m c (ix3 b s h) := by
  show StableHlo.after hostOps0 (fun b => m (c, b)) (Proc.tc.devRef main_v27) _ = _
  after_results
  pointwise
  simp only [flat_div, flat_mod]
  rfl
theorem entry28 (h : Fin 8) (l : Fin 128) : (V m c main_v28 : Vec Ideal S24576x8x128 .fp8e4m3) (ix3 (flat b s) h l) = arg6 m c (ix4 b s h l) := by
  show StableHlo.after hostOps0 (fun b => m (c, b)) (Proc.tc.devRef main_v28) _ = _
  after_results
  pointwise
  simp only [flat_div, flat_mod]
  rfl
theorem entry29 (h : Fin 8) : (V m c main_v29 : Vec Ideal S24576x8 .f32) (ix2 (flat b s) h) = arg7 m c (ix3 b s h) := by
  show StableHlo.after hostOps0 (fun b => m (c, b)) (Proc.tc.devRef main_v29) _ = _
  after_results
  pointwise
  simp only [flat_div, flat_mod]
  rfl
theorem entry30 (l : Fin 128) : (V m c main_v30 : Vec Ideal S1x128 .f32) (ix2 0 l) = arg8 m c (ix1 l) := by
  show StableHlo.after hostOps0 (fun b => m (c, b)) (Proc.tc.devRef main_v30) _ = _
  after_results
  pointwise
  rfl
theorem entry31 (l : Fin 128) : (V m c main_v31 : Vec Ideal S1x128 .f32) (ix2 0 l) = arg9 m c (ix1 l) := by
  show StableHlo.after hostOps0 (fun b => m (c, b)) (Proc.tc.devRef main_v31) _ = _
  after_results
  pointwise
  rfl

/-! ## The tables -/

theorem entry15 (i : Fin 32) : (V m c main_v15 : Vec Ideal S24576x32 .f32) (ix2 (flat b s) i) = cosRow (arg10 m c) b s i := by
  show StableHlo.after hostOps0 (fun b => m (c, b)) (Proc.tc.devRef main_v15) _ = _
  after_results
  pointwise
  simp only [flat_div, flat_mod]
  rfl
theorem entry16 (i : Fin 32) : (V m c main_v16 : Vec Ideal S24576x32 .f32) (ix2 (flat b s) i) = sinRow (arg10 m c) b s i := by
  show StableHlo.after hostOps0 (fun b => m (c, b)) (Proc.tc.devRef main_v16) _ = _
  after_results
  pointwise
  simp only [flat_div, flat_mod]
  rfl
theorem entry19 (i : Fin 32) : (V m c main_v19 : Vec Ideal S24576x32 .f32) (ix2 (flat b s) i) = -sinRow (arg10 m c) b s i := by
  show StableHlo.after hostOps0 (fun b => m (c, b)) (Proc.tc.devRef main_v19) _ = _
  after_results
  pointwise
  simp only [flat_div, flat_mod]
  rfl
theorem entry17 (n : Fin 24576) (i : Fin 64) : (V m c main_v17 : Vec Ideal S24576x64 .f32) (ix2 n i) = (1 : EReal) := by
  show StableHlo.after hostOps0 (fun b => m (c, b)) (Proc.tc.devRef main_v17) _ = _
  after_results
  pointwise
theorem entry20 (n : Fin 24576) (i : Fin 64) : (V m c main_v20 : Vec Ideal S24576x64 .f32) (ix2 n i) = (0 : EReal) := by
  show StableHlo.after hostOps0 (fun b => m (c, b)) (Proc.tc.devRef main_v20) _ = _
  after_results
  pointwise

theorem entry18 : V m c main_v18 = concatenate S24576x128 1 [⟨S24576x32, (V m c main_v15 : Vec Ideal S24576x32 .f32)⟩,
      ⟨S24576x32, (V m c main_v15 : Vec Ideal S24576x32 .f32)⟩, ⟨S24576x64, (V m c main_v17 : Vec Ideal S24576x64 .f32)⟩]
      concatenates_S24576x32_S24576x32_S24576x64_S24576x128_d1 := by
  have ha : V m c main_v15 = StableHlo.after hostOps0 (fun b => m (c, b)) (Proc.tc.devRef main_v15) := rfl
  have hk : V m c main_v17 = StableHlo.after hostOps0 (fun b => m (c, b)) (Proc.tc.devRef main_v17) := rfl
  rw [ha, hk]
  show StableHlo.after hostOps0 (fun b => m (c, b)) (Proc.tc.devRef main_v18) = _
  after_results
  rfl

theorem entry21 : V m c main_v21 = concatenate S24576x128 1 [⟨S24576x32, (V m c main_v16 : Vec Ideal S24576x32 .f32)⟩,
      ⟨S24576x32, (V m c main_v19 : Vec Ideal S24576x32 .f32)⟩, ⟨S24576x64, (V m c main_v20 : Vec Ideal S24576x64 .f32)⟩]
      concatenates_S24576x32_S24576x32_S24576x64_S24576x128_d1 := by
  have ha : V m c main_v16 = StableHlo.after hostOps0 (fun b => m (c, b)) (Proc.tc.devRef main_v16) := rfl
  have hb : V m c main_v19 = StableHlo.after hostOps0 (fun b => m (c, b)) (Proc.tc.devRef main_v19) := rfl
  have hk : V m c main_v20 = StableHlo.after hostOps0 (fun b => m (c, b)) (Proc.tc.devRef main_v20) := rfl
  rw [ha, hb, hk]
  show StableHlo.after hostOps0 (fun b => m (c, b)) (Proc.tc.devRef main_v21) = _
  after_results
  rfl

/-- A three-part table at a lane. -/
theorem three (x y : Vec Ideal S24576x32 .f32) (z : Vec Ideal S24576x64 .f32) (n : Fin 24576) (l : Fin 128) :
    concatenate S24576x128 1 [⟨S24576x32, x⟩, ⟨S24576x32, y⟩, ⟨S24576x64, z⟩]
      concatenates_S24576x32_S24576x32_S24576x64_S24576x128_d1 (ix2 n l)
      = if h1 : l.val < 32 then x (ix2 n ⟨l.val, h1⟩) else if h2 : l.val - 32 < 32 then y (ix2 n ⟨l.val - 32, h2⟩)
        else z (ix2 n ⟨l.val - 32 - 32, by have := l.isLt; omega⟩) := by
  pointwise

/-! ## The rows -/

theorem dyQ_flat (h : Fin 40) : dyQ m c (flat b s) h = tokenRow (arg0 m c) (arg1 m c) b s h := by
  funext l; unfold dyQ blkRow tokenRow; rw [entry22, entry23]
theorem dyK_flat (h : Fin 8) : dyK m c (flat b s) h = tokenRow (arg2 m c) (arg3 m c) b s h := by
  funext l; unfold dyK blkRow tokenRow; rw [entry24, entry25]
theorem xQ_flat (h : Fin 40) : xQ m c (flat b s) h = tokenRow (arg4 m c) (arg5 m c) b s h := by
  funext l; unfold xQ blkRow tokenRow; rw [entry26, entry27]
theorem xK_flat (h : Fin 8) : xK m c (flat b s) h = tokenRow (arg6 m c) (arg7 m c) b s h := by
  funext l; unfold xK blkRow tokenRow; rw [entry28, entry29]
theorem gQ_eq : gQ m c = weightRow (arg8 m c) := by
  funext l; unfold gQ gRow weightRow; rw [entry30]
theorem gK_eq : gK m c = weightRow (arg9 m c) := by
  funext l; unfold gK gRow weightRow; rw [entry31]
theorem cosT_flat : cosT m c (flat b s) = wide (cosRow (arg10 m c) b s) (cosRow (arg10 m c) b s) 1 := by
  funext l; unfold cosT tabRow wide; rw [entry18, three]
  exact dite_congr rfl (fun _ => entry15 ..) fun _ => dite_congr rfl (fun _ => entry15 ..) fun _ => entry17 ..
theorem sinT_flat : sinT m c (flat b s) = wide (sinRow (arg10 m c) b s) (fun i => -sinRow (arg10 m c) b s i) 0 := by
  funext l; unfold sinT tabRow wide; rw [entry21, three]
  exact dite_congr rfl (fun _ => entry16 ..) fun _ => dite_congr rfl (fun _ => entry19 ..) fun _ => entry20 ..

end Cert.Proof

end
-- ==== Proof.KernelResult.lean ====
/- The kernel's four results: the region's arrays through the host lines after it, each the specification's array. -/
module

public import proofs.«01_k».proof.Proof.KernelArr
public import proofs.«01_k».proof.Proof.KernelHost

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- A buffer's contents after the host lines that follow the region. -/
abbrev tail (b : Ref sig .tc) : Buf (Elt Ideal) ((c.tc : Thread nD τ).loc b) :=
  Pipeline.afterTail₀ cfgs (dats m) 0 (V0 m) [hostOps1] c b

/-- The contents the host lines after the region start from, at an array of the region. -/
theorem region_arr (w : Fin cfg0.W) :
    Pipeline.withArrays (cfgs 0).spec c (V0 m c) (fun w => (dats m 0 c).arrAt w (cfgs 0).N)
      (Proc.devRef .tc (Pipeline.arrRef (cfgs 0).spec w)) = (dats m 0 c).arrAt w (cfgs 0).N :=
  Pipeline.withArrays_arr _ (by decide) c _ _ w

/-- The sum over the grid's points and their tokens is the sum over batch rows and their tokens. -/
theorem regroup (f : Fin 24576 → EReal) :
    ∑ t : Fin cfg0.N, ∑ r : Fin 64, f (tok t r) = ∑ b : Fin 12, ∑ s : Fin 2048, f (flat b s) := by
  have hN : cfg0.N = 384 := N_0
  rw [← sum_split 12 2048 24576 (by decide) f flat fun _ _ => rfl]
  exact (sum_split cfg0.N 64 24576 (by rw [hN]) f tok fun _ _ => rfl).symm

variable (b : Fin 12) (s : Fin 2048)

theorem dnQ_flat (h : Fin 40) : dnQ m c (flat b s) h = dnRow (arg0 m c) (arg1 m c) (arg10 m c) b s h := by
  unfold dnQ dnRow; rw [dyQ_flat, cosT_flat, sinT_flat, rotFull_wide]
theorem dnK_flat (h : Fin 8) : dnK m c (flat b s) h = dnRow (arg2 m c) (arg3 m c) (arg10 m c) b s h := by
  unfold dnK dnRow; rw [dyK_flat, cosT_flat, sinT_flat, rotFull_wide]

theorem tail33 : tail m c main_v33 = inputGrad (arg0 m c) (arg1 m c) (arg4 m c) (arg5 m c) (arg8 m c) (arg10 m c) := by
  unfold tail Pipeline.afterTail₀
  show StableHlo.after hostOps1 _ _ = _
  after_results
  funext i
  obtain ⟨b, s, h, l, rfl⟩ : ∃ (b : Fin 12) (s : Fin 2048) (h : Fin 40) (l : Fin 128), i = (ix4 b s h l : S12x2048x40x128.Idx) :=
    ⟨_, _, _, _, ValueIdx.eq_ix4 (n0 := 12) (n1 := 2048) (n2 := 40) (n3 := 128) i⟩
  have e := (region_arr m c 12).trans (final12 m c)
  refine (congrArg (fun a : Vec Ideal S24576x40x128 .bf16 => shapeCast S12x2048x40x128 a shapeCasts_S24576x40x128_S12x2048x40x128 (ix4 b s h l)) e).trans ?_
  have hr : shapeCast S12x2048x40x128 (dxQ m c) shapeCasts_S24576x40x128_S12x2048x40x128 (ix4 b s h l) = dxQ m c (ix3 (flat b s) h l) := by
    pointwise
    rfl
  refine hr.trans ?_
  show dxOuter (dnQ m c (flat b s) h) (xQ m c (flat b s) h) (gQ m c) l
    = dxInner (dnRow (arg0 m c) (arg1 m c) (arg10 m c) b s h) (tokenRow (arg4 m c) (arg5 m c) b s h) (weightRow (arg8 m c)) l
  rw [dnQ_flat, xQ_flat, gQ_eq, dxOuter_eq]

theorem tail34 : tail m c main_v34 = inputGrad (arg2 m c) (arg3 m c) (arg6 m c) (arg7 m c) (arg9 m c) (arg10 m c) := by
  unfold tail Pipeline.afterTail₀
  show StableHlo.after hostOps1 _ _ = _
  after_results
  funext i
  obtain ⟨b, s, h, l, rfl⟩ : ∃ (b : Fin 12) (s : Fin 2048) (h : Fin 8) (l : Fin 128), i = (ix4 b s h l : S12x2048x8x128.Idx) :=
    ⟨_, _, _, _, ValueIdx.eq_ix4 (n0 := 12) (n1 := 2048) (n2 := 8) (n3 := 128) i⟩
  have e := (region_arr m c 13).trans (final13 m c)
  refine (congrArg (fun a : Vec Ideal S24576x8x128 .bf16 => shapeCast S12x2048x8x128 a shapeCasts_S24576x8x128_S12x2048x8x128 (ix4 b s h l)) e).trans ?_
  have hr : shapeCast S12x2048x8x128 (dxK m c) shapeCasts_S24576x8x128_S12x2048x8x128 (ix4 b s h l) = dxK m c (ix3 (flat b s) h l) := by
    pointwise
    rfl
  refine hr.trans ?_
  show dxOuter (dnK m c (flat b s) h) (xK m c (flat b s) h) (gK m c) l
    = dxInner (dnRow (arg2 m c) (arg3 m c) (arg10 m c) b s h) (tokenRow (arg6 m c) (arg7 m c) b s h) (weightRow (arg9 m c)) l
  rw [dnK_flat, xK_flat, gK_eq, dxOuter_eq]

theorem tail35 : tail m c main_v35 = weightGrad (arg0 m c) (arg1 m c) (arg4 m c) (arg5 m c) (arg10 m c) := by
  unfold tail Pipeline.afterTail₀
  show StableHlo.after hostOps1 _ _ = _
  after_results
  funext i
  obtain ⟨l, rfl⟩ : ∃ (l : Fin 128), i = (ix1 l : S128.Idx) := ⟨_, ValueIdx.eq_ix1 (n := 128) i⟩
  have e := (region_arr m c 14).trans (final14 m c)
  refine (congrArg (fun a : FVec Ideal S40x128 .f32 => Host.reduceAdd (F := Ideal) (φ := .f32) a (constant S_ .f32 0x00000000#32) reducesTo_S40x128_S128_d0 h_S_ (ix1 l)) e).trans ?_
  have hr : Host.reduceAdd (F := Ideal) (φ := .f32) (dgQ m c) (constant S_ .f32 0x00000000#32) reducesTo_S40x128_S128_d0 h_S_ (ix1 l)
      = ∑ h : Fin 40, dgQ m c (ix2 h l) := by
    pointwise
  refine hr.trans ?_
  show ∑ h : Fin 40, ∑ t : Fin cfg0.N, ∑ r : Fin 64, dgRow (dnQ m c (tok t r) h) (xQ m c (tok t r) h) l
    = ∑ b : Fin 12, ∑ s : Fin 2048, ∑ h : Fin 40, dgRow (dnRow (arg0 m c) (arg1 m c) (arg10 m c) b s h) (tokenRow (arg4 m c) (arg5 m c) b s h) l
  refine (Finset.sum_congr rfl fun h _ => regroup fun n => dgRow (dnQ m c n h) (xQ m c n h) l).trans ?_
  simp only [dnQ_flat, xQ_flat]
  rw [Finset.sum_comm]
  exact Finset.sum_congr rfl fun b _ => Finset.sum_comm

theorem tail36 : tail m c main_v36 = weightGrad (arg2 m c) (arg3 m c) (arg6 m c) (arg7 m c) (arg10 m c) := by
  unfold tail Pipeline.afterTail₀
  show StableHlo.after hostOps1 _ _ = _
  after_results
  funext i
  obtain ⟨l, rfl⟩ : ∃ (l : Fin 128), i = (ix1 l : S128.Idx) := ⟨_, ValueIdx.eq_ix1 (n := 128) i⟩
  have e := (region_arr m c 15).trans (final15 m c)
  refine (congrArg (fun a : FVec Ideal S8x128 .f32 => Host.reduceAdd (F := Ideal) (φ := .f32) a (constant S_ .f32 0x00000000#32) reducesTo_S8x128_S128_d0 h_S_ (ix1 l)) e).trans ?_
  have hr : Host.reduceAdd (F := Ideal) (φ := .f32) (dgK m c) (constant S_ .f32 0x00000000#32) reducesTo_S8x128_S128_d0 h_S_ (ix1 l)
      = ∑ h : Fin 8, dgK m c (ix2 h l) := by
    pointwise
  refine hr.trans ?_
  show ∑ h : Fin 8, ∑ t : Fin cfg0.N, ∑ r : Fin 64, dgRow (dnK m c (tok t r) h) (xK m c (tok t r) h) l
    = ∑ b : Fin 12, ∑ s : Fin 2048, ∑ h : Fin 8, dgRow (dnRow (arg2 m c) (arg3 m c) (arg10 m c) b s h) (tokenRow (arg6 m c) (arg7 m c) b s h) l
  refine (Finset.sum_congr rfl fun h _ => regroup fun n => dgRow (dnK m c n h) (xK m c n h) l).trans ?_
  simp only [dnK_flat, xK_flat]
  rw [Finset.sum_comm]
  exact Finset.sum_congr rfl fun b _ => Finset.sum_comm

/-- The run: the four results are the specification's arrays, and every argument ends as it was. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v33) = inputGrad (arg0 m c) (arg1 m c) (arg4 m c) (arg5 m c) (arg8 m c) (arg10 m c)
      ∧ r.2.mem ((c.tc : Thread nD τ).loc main_v34) = inputGrad (arg2 m c) (arg3 m c) (arg6 m c) (arg7 m c) (arg9 m c) (arg10 m c)
      ∧ r.2.mem ((c.tc : Thread nD τ).loc main_v35) = weightGrad (arg0 m c) (arg1 m c) (arg4 m c) (arg5 m c) (arg10 m c)
      ∧ r.2.mem ((c.tc : Thread nD τ).loc main_v36) = weightGrad (arg2 m c) (arg3 m c) (arg6 m c) (arg7 m c) (arg10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (run_main m ρ) (unchanged m ρ)) fun r h c =>
    ⟨((h.1 c).2 main_v33 (Pipeline.mem_restRefs_of main_v33 (by decide) (by decide))).trans (tail33 m c),
      ((h.1 c).2 main_v34 (Pipeline.mem_restRefs_of main_v34 (by decide) (by decide))).trans (tail34 m c),
      ((h.1 c).2 main_v35 (Pipeline.mem_restRefs_of main_v35 (by decide) (by decide))).trans (tail35 m c),
      ((h.1 c).2 main_v36 (Pipeline.mem_restRefs_of main_v36 (by decide) (by decide))).trans (tail36 m c),
      h.2 c⟩

end Cert.Proof

end
-- ==== Proof.RefBlock.lean ====
/- What the reference computes from whole arrays, at an index: the input gradient of every row, and the weight gradient
   as a sum over every row. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.Proof.Ref

open Idealize.ShloMosaic Cert.ReferenceIdeal Cert.ReferenceIdeal.Gen

/-- One token's row of a half-width table. -/
def halfRow (t : (⟨4, ![12, 2048, 1, 32]⟩ : Shape).Idx → EReal) (b : Fin 12) (s : Fin 2048) : HalfRow :=
  fun i => t (ix4 b s 0 i)

/-- A sum over the first three of four axes, at the fourth. -/
theorem sum_rows {n0 n1 n2 n3 : ℕ} (h : (⟨4, ![n0, n1, n2, n3]⟩ : Shape).Reduces [0, 1, 2] ⟨1, ![n3]⟩)
    (v : (⟨4, ![n0, n1, n2, n3]⟩ : Shape).Idx → EReal) (l : Fin n3) :
    Ideal.reduceAdd h v (ix1 l) = ∑ b : Fin n0, ∑ s : Fin n1, ∑ k : Fin n2, v (ix4 b s k l) := by
  refine (Finset.sum_filter_eq_sum_of_fiber _ (fun k : Fin n0 × Fin n1 × Fin n2 => ix4 k.1 k.2.1 k.2.2 l)
    (fun _ _ e => Prod.ext (congrFun e 0) (Prod.ext (congrFun e 1) (congrFun e 2))) (fun i => ?_) v).trans ?_
  · constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext a
      apply Fin.ext
      match a with
      | ⟨0, _⟩ => rfl
  · simp only [Fintype.sum_prod_type]

variable (x10 x11 : Vec Ideal S12x2048x1x32 .f32) (b : Fin 12) (s : Fin 2048)

section query
variable (x0 : Vec Ideal S12x2048x40x128 .fp8e5m2) (x1 : Vec Ideal S12x2048x40 .f32) (x4 : Vec Ideal S12x2048x40x128 .fp8e4m3)
  (x5 : Vec Ideal S12x2048x40 .f32) (x8 : Vec Ideal S128 .f32) (h : Fin 40)

theorem q_x (l : Fin 128) : k0_pay2 x4 x5 (ix4 b s h l) = tokenRow x4 x5 b s h l := by
  pointwise [k0_pay2]; rfl

/-- The rotated gradient of the query heads. -/
theorem q_dn (l : Fin 128) : k0_pay3 x0 x1 x10 x11 (ix4 b s h l)
    = rotHalf (tokenRow x0 x1 b s h) (halfRow x10 b s) (halfRow x11 b s) l := by
  pointwise [k0_pay3]; rfl

/-- The reciprocal root mean square of the query heads. -/
theorem q_rstd (k : Fin 1) : k0_pay6 (k0_pay4 x4 x5) k0_pay5 (ix4 b s h k) = rstd (tokenRow x4 x5 b s h) := by
  pointwise [k0_pay6, k0_pay4, k0_pay5]; simp only [q_x]; rfl

/-- The normalised query heads. -/
theorem q_xhat (l : Fin 128) : k0_pay7 (k0_pay2 x4 x5) (k0_pay4 x4 x5) k0_pay5 (ix4 b s h l) = xhat (tokenRow x4 x5 b s h) l := by
  pointwise [k0_pay7]; rw [q_rstd, q_x]; rfl

/-- The input gradient of the query heads. -/
theorem q_dx (l : Fin 128) : k0_pay9 x8 (k0_pay2 x4 x5) (k0_pay3 x0 x1 x10 x11) (k0_pay4 x4 x5) k0_pay5 (ix4 b s h l)
    = dxInner (rotHalf (tokenRow x0 x1 b s h) (halfRow x10 b s) (halfRow x11 b s)) (tokenRow x4 x5 b s h) (weightRow x8) l := by
  pointwise [k0_pay9]; simp only [q_xhat, q_rstd, q_dn]; rfl

/-- The weight gradient of the query heads. -/
theorem q_dg (l : Fin 128) : k0_pay8 (k0_pay2 x4 x5) (k0_pay3 x0 x1 x10 x11) (k0_pay4 x4 x5) k0_pay5 (ix1 l)
    = ∑ b : Fin 12, ∑ s : Fin 2048, ∑ h : Fin 40,
        dgRow (rotHalf (tokenRow x0 x1 b s h) (halfRow x10 b s) (halfRow x11 b s)) (tokenRow x4 x5 b s h) l := by
  pointwise [k0_pay8]
  refine (sum_rows _ _ l).trans ?_
  refine Finset.sum_congr rfl fun b _ => Finset.sum_congr rfl fun s _ => Finset.sum_congr rfl fun h _ => ?_
  pointwise
  rw [q_dn, q_xhat]; rfl

end query

section key
variable (x2 : Vec Ideal S12x2048x8x128 .fp8e5m2) (x3 : Vec Ideal S12x2048x8 .f32) (x6 : Vec Ideal S12x2048x8x128 .fp8e4m3)
  (x7 : Vec Ideal S12x2048x8 .f32) (x9 : Vec Ideal S128 .f32) (h : Fin 8)

theorem k_x (l : Fin 128) : k0_pay10 x6 x7 (ix4 b s h l) = tokenRow x6 x7 b s h l := by
  pointwise [k0_pay10]; rfl

/-- The rotated gradient of the key heads. -/
theorem k_dn (l : Fin 128) : k0_pay11 x2 x3 x10 x11 (ix4 b s h l)
    = rotHalf (tokenRow x2 x3 b s h) (halfRow x10 b s) (halfRow x11 b s) l := by
  pointwise [k0_pay11]; rfl

/-- The reciprocal root mean square of the key heads. -/
theorem k_rstd (k : Fin 1) : k0_pay12 x6 x7 (ix4 b s h k) = rstd (tokenRow x6 x7 b s h) := by
  pointwise [k0_pay12]; simp only [k_x]; rfl

/-- The normalised key heads. -/
theorem k_xhat (l : Fin 128) : k0_pay13 x6 x7 (ix4 b s h l) = xhat (tokenRow x6 x7 b s h) l := by
  pointwise [k0_pay13]; rw [k_rstd, k_x]; rfl

/-- The input gradient of the key heads. -/
theorem k_dx (l : Fin 128) : k0_pay1 (k0_pay15 x2 x3 x6 x7 x9 x10 x11) (ix4 b s h l)
    = dxInner (rotHalf (tokenRow x2 x3 b s h) (halfRow x10 b s) (halfRow x11 b s)) (tokenRow x6 x7 b s h) (weightRow x9) l := by
  pointwise [k0_pay1, k0_pay15]; simp only [k_xhat, k_rstd, k_dn]; rfl

/-- The weight gradient of the key heads. -/
theorem k_dg (l : Fin 128) : k0_pay14 x2 x3 x6 x7 x10 x11 (ix1 l)
    = ∑ b : Fin 12, ∑ s : Fin 2048, ∑ h : Fin 8,
        dgRow (rotHalf (tokenRow x2 x3 b s h) (halfRow x10 b s) (halfRow x11 b s)) (tokenRow x6 x7 b s h) l := by
  pointwise [k0_pay14]
  refine (sum_rows _ _ l).trans ?_
  refine Finset.sum_congr rfl fun b _ => Finset.sum_congr rfl fun s _ => Finset.sum_congr rfl fun h _ => ?_
  pointwise
  rw [k_dn, k_xhat]; rfl

end key

end Cert.Proof.Ref

end
-- ==== Proof.RefArr.lean ====
/- What the reference's four result arrays hold after its run: its one body reads whole arrays and writes whole arrays, so
   each result is the value it computes from the arrays it is launched on. -/
module

public import proofs.«01_k».proof.Proof.Gen.ReferenceIdeal.Frame
public import proofs.«01_k».proof.Proof.RefBlock
public import Idealize.ShloMosaic.Lib.Claim
public import Idealize.ShloMosaic.Lib.Pipeline.Value

@[expose] public section

set_option maxRecDepth 16384

noncomputable section

namespace Cert.Proof.Ref

open Idealize.ShloMosaic Idealize.ShloMosaic.TcCoe Idealize.SL.Sem Cert.ReferenceIdeal Cert.ReferenceIdeal.Gen

/-! ## The body's four stores, as values of the arrays it loads -/

theorem hz1 : (![0] : Fin 1 → ℕ) = fun _ => 0 := by decide
theorem hz3 : (![0, 0, 0] : Fin 3 → ℕ) = fun _ => 0 := by decide
theorem hz4 : (![0, 0, 0, 0] : Fin 4 → ℕ) = fun _ => 0 := by decide

section Out
variable (x0 : Vec Ideal S12x2048x40x128 .fp8e5m2) (x1 : Vec Ideal S12x2048x40 .f32) (x2 : Vec Ideal S12x2048x8x128 .fp8e5m2) (x3 : Vec Ideal S12x2048x8 .f32) (x4 : Vec Ideal S12x2048x40x128 .fp8e4m3) (x5 : Vec Ideal S12x2048x40 .f32) (x6 : Vec Ideal S12x2048x8x128 .fp8e4m3) (x7 : Vec Ideal S12x2048x8 .f32) (x8 : Vec Ideal S128 .f32) (x9 : Vec Ideal S128 .f32) (x10 : Vec Ideal S12x2048x1x32 .f32) (x11 : Vec Ideal S12x2048x1x32 .f32)

theorem out12 : out0_12 (F := Ideal) x0 x1 x2 x3 x4 x5 x6 x7 x8 x9 x10 x11 = k0_pay9 x8 (k0_pay2 x4 x5) (k0_pay3 x0 x1 x10 x11) (k0_pay4 x4 x5) k0_pay5 := by
  unfold out0_12 k0_pay19 k0_pay18 k0_pay17 k0_pay16
  rw [View.canon_unit_zero hz4]
  simp only [View.ld_unit_zero (S := S12x2048x40x128) hz4, View.ld_unit_zero (S := S12x2048x40) hz3, View.ld_unit_zero (S := S128) hz1, View.ld_unit_zero (S := S12x2048x1x32) hz4]
theorem out13 : out0_13 (F := Ideal) x0 x1 x2 x3 x4 x5 x6 x7 x8 x9 x10 x11 = k0_pay1 (k0_pay15 x2 x3 x6 x7 x9 x10 x11) := by
  unfold out0_13
  rw [View.canon_unit_zero hz4]
  simp only [View.ld_unit_zero (S := S12x2048x8x128) hz4, View.ld_unit_zero (S := S12x2048x8) hz3, View.ld_unit_zero (S := S128) hz1, View.ld_unit_zero (S := S12x2048x1x32) hz4]
theorem out14 : out0_14 (F := Ideal) x0 x1 x2 x3 x4 x5 x6 x7 x8 x9 x10 x11 = k0_pay8 (k0_pay2 x4 x5) (k0_pay3 x0 x1 x10 x11) (k0_pay4 x4 x5) k0_pay5 := by
  unfold out0_14 k0_pay19 k0_pay18 k0_pay17 k0_pay16
  rw [View.canon_unit_zero hz1]
  simp only [View.ld_unit_zero (S := S12x2048x40x128) hz4, View.ld_unit_zero (S := S12x2048x40) hz3, View.ld_unit_zero (S := S12x2048x1x32) hz4]
theorem out15 : out0_15 (F := Ideal) x0 x1 x2 x3 x4 x5 x6 x7 x8 x9 x10 x11 = k0_pay14 x2 x3 x6 x7 x10 x11 := by
  unfold out0_15
  rw [View.canon_unit_zero hz1]
  simp only [View.ld_unit_zero (S := S12x2048x8x128) hz4, View.ld_unit_zero (S := S12x2048x8) hz3, View.ld_unit_zero (S := S12x2048x1x32) hz4]

end Out

variable (m : (ℓ : Loc nD τ sig) → Buf (Elt Ideal) ℓ) (c : Dev nD)

/-! ## Every window is a whole array -/

theorem emb0 (t : Fin cfg0.N) (i : S12x2048x40x128.Idx) : (((cfg0.win 0).blk t).view.emb i : S12x2048x40x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 40 + 1 * (i 2).val = (i 2).val; omega
  | ⟨3, _⟩ => show 0 * 128 + 1 * (i 3).val = (i 3).val; omega
theorem iblk0 (t : Fin cfg0.N) : (iblk m c 0 t : Vec Ideal S12x2048x40x128 .fp8e5m2) = V m c main_arg0 := by
  funext i; unfold iblk; rw [View.read_apply]; exact congrArg (V m c main_arg0 : Vec Ideal S12x2048x40x128 .fp8e5m2) (emb0 t i)
theorem emb1 (t : Fin cfg0.N) (i : S12x2048x40.Idx) : (((cfg0.win 1).blk t).view.emb i : S12x2048x40.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 40 + 1 * (i 2).val = (i 2).val; omega
theorem iblk1 (t : Fin cfg0.N) : (iblk m c 1 t : Vec Ideal S12x2048x40 .f32) = V m c main_arg1 := by
  funext i; unfold iblk; rw [View.read_apply]; exact congrArg (V m c main_arg1 : Vec Ideal S12x2048x40 .f32) (emb1 t i)
theorem emb2 (t : Fin cfg0.N) (i : S12x2048x8x128.Idx) : (((cfg0.win 2).blk t).view.emb i : S12x2048x8x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 8 + 1 * (i 2).val = (i 2).val; omega
  | ⟨3, _⟩ => show 0 * 128 + 1 * (i 3).val = (i 3).val; omega
theorem iblk2 (t : Fin cfg0.N) : (iblk m c 2 t : Vec Ideal S12x2048x8x128 .fp8e5m2) = V m c main_arg2 := by
  funext i; unfold iblk; rw [View.read_apply]; exact congrArg (V m c main_arg2 : Vec Ideal S12x2048x8x128 .fp8e5m2) (emb2 t i)
theorem emb3 (t : Fin cfg0.N) (i : S12x2048x8.Idx) : (((cfg0.win 3).blk t).view.emb i : S12x2048x8.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 8 + 1 * (i 2).val = (i 2).val; omega
theorem iblk3 (t : Fin cfg0.N) : (iblk m c 3 t : Vec Ideal S12x2048x8 .f32) = V m c main_arg3 := by
  funext i; unfold iblk; rw [View.read_apply]; exact congrArg (V m c main_arg3 : Vec Ideal S12x2048x8 .f32) (emb3 t i)
theorem emb4 (t : Fin cfg0.N) (i : S12x2048x40x128.Idx) : (((cfg0.win 4).blk t).view.emb i : S12x2048x40x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 40 + 1 * (i 2).val = (i 2).val; omega
  | ⟨3, _⟩ => show 0 * 128 + 1 * (i 3).val = (i 3).val; omega
theorem iblk4 (t : Fin cfg0.N) : (iblk m c 4 t : Vec Ideal S12x2048x40x128 .fp8e4m3) = V m c main_arg4 := by
  funext i; unfold iblk; rw [View.read_apply]; exact congrArg (V m c main_arg4 : Vec Ideal S12x2048x40x128 .fp8e4m3) (emb4 t i)
theorem emb5 (t : Fin cfg0.N) (i : S12x2048x40.Idx) : (((cfg0.win 5).blk t).view.emb i : S12x2048x40.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 40 + 1 * (i 2).val = (i 2).val; omega
theorem iblk5 (t : Fin cfg0.N) : (iblk m c 5 t : Vec Ideal S12x2048x40 .f32) = V m c main_arg5 := by
  funext i; unfold iblk; rw [View.read_apply]; exact congrArg (V m c main_arg5 : Vec Ideal S12x2048x40 .f32) (emb5 t i)
theorem emb6 (t : Fin cfg0.N) (i : S12x2048x8x128.Idx) : (((cfg0.win 6).blk t).view.emb i : S12x2048x8x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 8 + 1 * (i 2).val = (i 2).val; omega
  | ⟨3, _⟩ => show 0 * 128 + 1 * (i 3).val = (i 3).val; omega
theorem iblk6 (t : Fin cfg0.N) : (iblk m c 6 t : Vec Ideal S12x2048x8x128 .fp8e4m3) = V m c main_arg6 := by
  funext i; unfold iblk; rw [View.read_apply]; exact congrArg (V m c main_arg6 : Vec Ideal S12x2048x8x128 .fp8e4m3) (emb6 t i)
theorem emb7 (t : Fin cfg0.N) (i : S12x2048x8.Idx) : (((cfg0.win 7).blk t).view.emb i : S12x2048x8.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 8 + 1 * (i 2).val = (i 2).val; omega
theorem iblk7 (t : Fin cfg0.N) : (iblk m c 7 t : Vec Ideal S12x2048x8 .f32) = V m c main_arg7 := by
  funext i; unfold iblk; rw [View.read_apply]; exact congrArg (V m c main_arg7 : Vec Ideal S12x2048x8 .f32) (emb7 t i)
theorem emb8 (t : Fin cfg0.N) (i : S128.Idx) : (((cfg0.win 8).blk t).view.emb i : S128.Idx) = i := by
  refine funext fun a => Fin.ext ?_
  match a with
  | ⟨0, _⟩ => show 0 * 128 + 1 * (i 0).val = (i 0).val; omega
theorem iblk8 (t : Fin cfg0.N) : (iblk m c 8 t : Vec Ideal S128 .f32) = V m c main_arg8 := by
  funext i; unfold iblk; rw [View.read_apply]; exact congrArg (V m c main_arg8 : Vec Ideal S128 .f32) (emb8 t i)
theorem emb9 (t : Fin cfg0.N) (i : S128.Idx) : (((cfg0.win 9).blk t).view.emb i : S128.Idx) = i := by
  refine funext fun a => Fin.ext ?_
  match a with
  | ⟨0, _⟩ => show 0 * 128 + 1 * (i 0).val = (i 0).val; omega
theorem iblk9 (t : Fin cfg0.N) : (iblk m c 9 t : Vec Ideal S128 .f32) = V m c main_arg9 := by
  funext i; unfold iblk; rw [View.read_apply]; exact congrArg (V m c main_arg9 : Vec Ideal S128 .f32) (emb9 t i)
theorem emb10 (t : Fin cfg0.N) (i : S12x2048x1x32.Idx) : (((cfg0.win 10).blk t).view.emb i : S12x2048x1x32.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 1 + 1 * (i 2).val = (i 2).val; omega
  | ⟨3, _⟩ => show 0 * 32 + 1 * (i 3).val = (i 3).val; omega
theorem iblk10 (t : Fin cfg0.N) : (iblk m c 10 t : Vec Ideal S12x2048x1x32 .f32) = V m c main_v15 := by
  funext i; unfold iblk; rw [View.read_apply]; exact congrArg (V m c main_v15 : Vec Ideal S12x2048x1x32 .f32) (emb10 t i)
theorem emb11 (t : Fin cfg0.N) (i : S12x2048x1x32.Idx) : (((cfg0.win 11).blk t).view.emb i : S12x2048x1x32.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 1 + 1 * (i 2).val = (i 2).val; omega
  | ⟨3, _⟩ => show 0 * 32 + 1 * (i 3).val = (i 3).val; omega
theorem iblk11 (t : Fin cfg0.N) : (iblk m c 11 t : Vec Ideal S12x2048x1x32 .f32) = V m c main_v17 := by
  funext i; unfold iblk; rw [View.read_apply]; exact congrArg (V m c main_v17 : Vec Ideal S12x2048x1x32 .f32) (emb11 t i)
theorem emb12 (t : Fin cfg0.N) (i : S12x2048x40x128.Idx) : (((cfg0.win 12).blk t).view.emb i : S12x2048x40x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 40 + 1 * (i 2).val = (i 2).val; omega
  | ⟨3, _⟩ => show 0 * 128 + 1 * (i 3).val = (i 3).val; omega
theorem emb13 (t : Fin cfg0.N) (i : S12x2048x8x128.Idx) : (((cfg0.win 13).blk t).view.emb i : S12x2048x8x128.Idx) = i := by
  refine funext fun a => Fin.ext ?_
  match a with
  | ⟨0, _⟩ => show 0 * 12 + 1 * (i 0).val = (i 0).val; omega
  | ⟨1, _⟩ => show 0 * 2048 + 1 * (i 1).val = (i 1).val; omega
  | ⟨2, _⟩ => show 0 * 8 + 1 * (i 2).val = (i 2).val; omega
  | ⟨3, _⟩ => show 0 * 128 + 1 * (i 3).val = (i 3).val; omega
theorem emb14 (t : Fin cfg0.N) (i : S128.Idx) : (((cfg0.win 14).blk t).view.emb i : S128.Idx) = i := by
  refine funext fun a => Fin.ext ?_
  match a with
  | ⟨0, _⟩ => show 0 * 128 + 1 * (i 0).val = (i 0).val; omega
theorem emb15 (t : Fin cfg0.N) (i : S128.Idx) : (((cfg0.win 15).blk t).view.emb i : S128.Idx) = i := by
  refine funext fun a => Fin.ext ?_
  match a with
  | ⟨0, _⟩ => show 0 * 128 + 1 * (i 0).val = (i 0).val; omega

/-! ## The arrays after the run -/

/-- The array after the run. -/
def res12 : Vec Ideal S12x2048x40x128 .bf16 := k0_pay9 (V m c main_arg8) (k0_pay2 (V m c main_arg4) (V m c main_arg5)) (k0_pay3 (V m c main_arg0) (V m c main_arg1) (V m c main_v15) (V m c main_v17)) (k0_pay4 (V m c main_arg4) (V m c main_arg5)) k0_pay5

theorem final12 : (dats m 0 c).arrAt 12 cfg0.N = res12 m c := by
  have hN : cfg0.N = 1 := N_0
  refine (dats m 0 c).arrAt_eq_of_cover 12 (res12 m c) (fun t _ => ?_) fun i => ?_
  · funext j
    rw [View.read_apply]
    show (dats m 0 c).after 12 t j = res12 m c (((cfg0.win 12).blk t).view.emb j)
    rw [after0_12, out12]
    simp only [iblk0, iblk1, iblk4, iblk5, iblk8, iblk10, iblk11]
    exact congrArg (res12 m c) (emb12 t j).symm
  · have t : Fin cfg0.N := ⟨0, by omega⟩
    exact ⟨t, flush0_12 t, Finset.mem_map.mpr ⟨(i : S12x2048x40x128.Idx), Finset.mem_univ _, emb12 t i⟩⟩

/-- The array after the run. -/
def res13 : Vec Ideal S12x2048x8x128 .bf16 := k0_pay1 (k0_pay15 (V m c main_arg2) (V m c main_arg3) (V m c main_arg6) (V m c main_arg7) (V m c main_arg9) (V m c main_v15) (V m c main_v17))

theorem final13 : (dats m 0 c).arrAt 13 cfg0.N = res13 m c := by
  have hN : cfg0.N = 1 := N_0
  refine (dats m 0 c).arrAt_eq_of_cover 13 (res13 m c) (fun t _ => ?_) fun i => ?_
  · funext j
    rw [View.read_apply]
    show (dats m 0 c).after 13 t j = res13 m c (((cfg0.win 13).blk t).view.emb j)
    rw [after0_13, out13]
    simp only [iblk2, iblk3, iblk6, iblk7, iblk9, iblk10, iblk11]
    exact congrArg (res13 m c) (emb13 t j).symm
  · have t : Fin cfg0.N := ⟨0, by omega⟩
    exact ⟨t, flush0_13 t, Finset.mem_map.mpr ⟨(i : S12x2048x8x128.Idx), Finset.mem_univ _, emb13 t i⟩⟩

/-- The array after the run. -/
def res14 : Vec Ideal S128 .f32 := k0_pay8 (k0_pay2 (V m c main_arg4) (V m c main_arg5)) (k0_pay3 (V m c main_arg0) (V m c main_arg1) (V m c main_v15) (V m c main_v17)) (k0_pay4 (V m c main_arg4) (V m c main_arg5)) k0_pay5

theorem final14 : (dats m 0 c).arrAt 14 cfg0.N = res14 m c := by
  have hN : cfg0.N = 1 := N_0
  refine (dats m 0 c).arrAt_eq_of_cover 14 (res14 m c) (fun t _ => ?_) fun i => ?_
  · funext j
    rw [View.read_apply]
    show (dats m 0 c).after 14 t j = res14 m c (((cfg0.win 14).blk t).view.emb j)
    rw [after0_14, out14]
    simp only [iblk0, iblk1, iblk4, iblk5, iblk10, iblk11]
    exact congrArg (res14 m c) (emb14 t j).symm
  · have t : Fin cfg0.N := ⟨0, by omega⟩
    exact ⟨t, flush0_14 t, Finset.mem_map.mpr ⟨(i : S128.Idx), Finset.mem_univ _, emb14 t i⟩⟩

/-- The array after the run. -/
def res15 : Vec Ideal S128 .f32 := k0_pay14 (V m c main_arg2) (V m c main_arg3) (V m c main_arg6) (V m c main_arg7) (V m c main_v15) (V m c main_v17)

theorem final15 : (dats m 0 c).arrAt 15 cfg0.N = res15 m c := by
  have hN : cfg0.N = 1 := N_0
  refine (dats m 0 c).arrAt_eq_of_cover 15 (res15 m c) (fun t _ => ?_) fun i => ?_
  · funext j
    rw [View.read_apply]
    show (dats m 0 c).after 15 t j = res15 m c (((cfg0.win 15).blk t).view.emb j)
    rw [after0_15, out15]
    simp only [iblk2, iblk3, iblk6, iblk7, iblk10, iblk11]
    exact congrArg (res15 m c) (emb15 t j).symm
  · have t : Fin cfg0.N := ⟨0, by omega⟩
    exact ⟨t, flush0_15 t, Finset.mem_map.mpr ⟨(i : S128.Idx), Finset.mem_univ _, emb15 t i⟩⟩

end Cert.Proof.Ref

end
-- ==== Proof.RefResult.lean ====
/- The reference's four results are the specification's arrays of its arguments. -/
module

public import proofs.«01_k».proof.Proof.RefArr

@[expose] public section

set_option maxRecDepth 16384

noncomputable section

namespace Cert.Proof.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- Argument 0: dY of the query heads. -/
def arg0 : (Codes 40).Idx → EReal := m ((c.tc : Thread nD τ).loc main_arg0)
/-- Argument 1: their scales. -/
def arg1 : (Scales 40).Idx → EReal := m ((c.tc : Thread nD τ).loc main_arg1)
/-- Argument 2: dY of the key heads. -/
def arg2 : (Codes 8).Idx → EReal := m ((c.tc : Thread nD τ).loc main_arg2)
/-- Argument 3: their scales. -/
def arg3 : (Scales 8).Idx → EReal := m ((c.tc : Thread nD τ).loc main_arg3)
/-- Argument 4: the query heads. -/
def arg4 : (Codes 40).Idx → EReal := m ((c.tc : Thread nD τ).loc main_arg4)
/-- Argument 5: their scales. -/
def arg5 : (Scales 40).Idx → EReal := m ((c.tc : Thread nD τ).loc main_arg5)
/-- Argument 6: the key heads. -/
def arg6 : (Codes 8).Idx → EReal := m ((c.tc : Thread nD τ).loc main_arg6)
/-- Argument 7: their scales. -/
def arg7 : (Scales 8).Idx → EReal := m ((c.tc : Thread nD τ).loc main_arg7)
/-- Argument 8: the query weights. -/
def arg8 : Weights.Idx → EReal := m ((c.tc : Thread nD τ).loc main_arg8)
/-- Argument 9: the key weights. -/
def arg9 : Weights.Idx → EReal := m ((c.tc : Thread nD τ).loc main_arg9)
/-- Argument 10: the positions. -/
def arg10 : Positions.Idx → BitVec 32 := m ((c.tc : Thread nD τ).loc main_arg10)

/-! ## The arrays the body is launched on -/

theorem entry0 : (V m c main_arg0 : Vec Ideal S12x2048x40x128 .fp8e5m2) = arg0 m c := V_main_arg0 m c
theorem entry1 : (V m c main_arg1 : Vec Ideal S12x2048x40 .f32) = arg1 m c := V_main_arg1 m c
theorem entry2 : (V m c main_arg2 : Vec Ideal S12x2048x8x128 .fp8e5m2) = arg2 m c := V_main_arg2 m c
theorem entry3 : (V m c main_arg3 : Vec Ideal S12x2048x8 .f32) = arg3 m c := V_main_arg3 m c
theorem entry4 : (V m c main_arg4 : Vec Ideal S12x2048x40x128 .fp8e4m3) = arg4 m c := V_main_arg4 m c
theorem entry5 : (V m c main_arg5 : Vec Ideal S12x2048x40 .f32) = arg5 m c := V_main_arg5 m c
theorem entry6 : (V m c main_arg6 : Vec Ideal S12x2048x8x128 .fp8e4m3) = arg6 m c := V_main_arg6 m c
theorem entry7 : (V m c main_arg7 : Vec Ideal S12x2048x8 .f32) = arg7 m c := V_main_arg7 m c
theorem entry8 : (V m c main_arg8 : Vec Ideal S128 .f32) = arg8 m c := V_main_arg8 m c
theorem entry9 : (V m c main_arg9 : Vec Ideal S128 .f32) = arg9 m c := V_main_arg9 m c

/-- The table of cosines. -/
theorem cosRow (b : Fin 12) (s : Fin 2048) :
    halfRow (V m c main_v15 : Vec Ideal S12x2048x1x32 .f32) b s = Cert.Proof.cosRow (arg10 m c) b s := by
  funext i
  show StableHlo.after hostOps0 (fun b => m (c, b)) (Proc.tc.devRef main_v15) _ = _
  after_results
  pointwise
  rfl

/-- The table of sines. -/
theorem sinRow (b : Fin 12) (s : Fin 2048) :
    halfRow (V m c main_v17 : Vec Ideal S12x2048x1x32 .f32) b s = Cert.Proof.sinRow (arg10 m c) b s := by
  funext i
  show StableHlo.after hostOps0 (fun b => m (c, b)) (Proc.tc.devRef main_v17) _ = _
  after_results
  pointwise
  rfl

/-! ## The results -/

theorem res12_eq : res12 m c = inputGrad (arg0 m c) (arg1 m c) (arg4 m c) (arg5 m c) (arg8 m c) (arg10 m c) := by
  funext i
  obtain ⟨b, s, h, l, rfl⟩ : ∃ (b : Fin 12) (s : Fin 2048) (h : Fin 40) (l : Fin 128), i = (ix4 b s h l : S12x2048x40x128.Idx) :=
    ⟨_, _, _, _, ValueIdx.eq_ix4 (n0 := 12) (n1 := 2048) (n2 := 40) (n3 := 128) i⟩
  unfold res12
  rw [q_dx, cosRow, sinRow, entry0, entry1, entry4, entry5, entry8]
  rfl

theorem res13_eq : res13 m c = inputGrad (arg2 m c) (arg3 m c) (arg6 m c) (arg7 m c) (arg9 m c) (arg10 m c) := by
  funext i
  obtain ⟨b, s, h, l, rfl⟩ : ∃ (b : Fin 12) (s : Fin 2048) (h : Fin 8) (l : Fin 128), i = (ix4 b s h l : S12x2048x8x128.Idx) :=
    ⟨_, _, _, _, ValueIdx.eq_ix4 (n0 := 12) (n1 := 2048) (n2 := 8) (n3 := 128) i⟩
  unfold res13
  rw [k_dx, cosRow, sinRow, entry2, entry3, entry6, entry7, entry9]
  rfl

theorem res14_eq : res14 m c = weightGrad (arg0 m c) (arg1 m c) (arg4 m c) (arg5 m c) (arg10 m c) := by
  funext i
  obtain ⟨l, rfl⟩ : ∃ (l : Fin 128), i = (ix1 l : S128.Idx) := ⟨_, ValueIdx.eq_ix1 (n := 128) i⟩
  unfold res14
  rw [q_dg]
  refine Finset.sum_congr rfl fun b _ => Finset.sum_congr rfl fun s _ => Finset.sum_congr rfl fun h _ => ?_
  rw [cosRow, sinRow, entry0, entry1, entry4, entry5]
  rfl

theorem res15_eq : res15 m c = weightGrad (arg2 m c) (arg3 m c) (arg6 m c) (arg7 m c) (arg10 m c) := by
  funext i
  obtain ⟨l, rfl⟩ : ∃ (l : Fin 128), i = (ix1 l : S128.Idx) := ⟨_, ValueIdx.eq_ix1 (n := 128) i⟩
  unfold res15
  rw [k_dg]
  refine Finset.sum_congr rfl fun b _ => Finset.sum_congr rfl fun s _ => Finset.sum_congr rfl fun h _ => ?_
  rw [cosRow, sinRow, entry2, entry3, entry6, entry7]
  rfl

/-- The run: the four results are the specification's arrays, and every argument ends as it was. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v18_0) = inputGrad (arg0 m c) (arg1 m c) (arg4 m c) (arg5 m c) (arg8 m c) (arg10 m c)
      ∧ r.2.mem ((c.tc : Thread nD τ).loc main_v18_1) = inputGrad (arg2 m c) (arg3 m c) (arg6 m c) (arg7 m c) (arg9 m c) (arg10 m c)
      ∧ r.2.mem ((c.tc : Thread nD τ).loc main_v18_2) = weightGrad (arg0 m c) (arg1 m c) (arg4 m c) (arg5 m c) (arg10 m c)
      ∧ r.2.mem ((c.tc : Thread nD τ).loc main_v18_3) = weightGrad (arg2 m c) (arg3 m c) (arg6 m c) (arg7 m c) (arg10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (run_main m ρ) (unchanged m ρ)) fun r h c =>
    ⟨((h.1 c).1 12).trans ((final12 m c).trans (res12_eq m c)), ((h.1 c).1 13).trans ((final13 m c).trans (res13_eq m c)),
      ((h.1 c).1 14).trans ((final14 m c).trans (res14_eq m c)), ((h.1 c).1 15).trans ((final15 m c).trans (res15_eq m c)),
      h.2 c⟩

end Cert.Proof.Ref

end
-- ==== Proof.lean ====
/- Assembles the proof of `Cert.Claim`: the three frames, the ledger of the idealization, and the equality of the kernel's
   and the reference's results, both being the arrays of Proof/Spec.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- Both programs end with the specification's arrays of the arguments, on which their memories agree. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, run m g, ?_⟩
  have h0 : ∀ c, Ref.arg0 m' c = arg0 m c := fun c => (hagree c).1
  have h1 : ∀ c, Ref.arg1 m' c = arg1 m c := fun c => (hagree c).2.1
  have h2 : ∀ c, Ref.arg2 m' c = arg2 m c := fun c => (hagree c).2.2.1
  have h3 : ∀ c, Ref.arg3 m' c = arg3 m c := fun c => (hagree c).2.2.2.1
  have h4 : ∀ c, Ref.arg4 m' c = arg4 m c := fun c => (hagree c).2.2.2.2.1
  have h5 : ∀ c, Ref.arg5 m' c = arg5 m c := fun c => (hagree c).2.2.2.2.2.1
  have h6 : ∀ c, Ref.arg6 m' c = arg6 m c := fun c => (hagree c).2.2.2.2.2.2.1
  have h7 : ∀ c, Ref.arg7 m' c = arg7 m c := fun c => (hagree c).2.2.2.2.2.2.2.1
  have h8 : ∀ c, Ref.arg8 m' c = arg8 m c := fun c => (hagree c).2.2.2.2.2.2.2.2.1
  have h9 : ∀ c, Ref.arg9 m' c = arg9 m c := fun c => (hagree c).2.2.2.2.2.2.2.2.2.1
  have h10 : ∀ c, Ref.arg10 m' c = arg10 m c := fun c => (hagree c).2.2.2.2.2.2.2.2.2.2
  have e := Ref.run m' g'
  simp only [h0, h1, h2, h3, h4, h5, h6, h7, h8, h9, h10] at e
  exact e

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
